-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.blockN ⟨2, ![2048, 8192]⟩ ⟨2, ![4096, 8192]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x8192 : Shape := ⟨2, ![4096, 8192]⟩
abbrev S256x4096 : Shape := ⟨2, ![256, 4096]⟩
abbrev S256x1024 : Shape := ⟨2, ![256, 1024]⟩
abbrev S4096x1024 : Shape := ⟨2, ![4096, 1024]⟩
abbrev S2048x8192 : Shape := ⟨2, ![2048, 8192]⟩
abbrev S8 : Shape := ⟨1, ![8]⟩
abbrev S2048x512 : Shape := ⟨2, ![2048, 512]⟩
abbrev S_ : Shape := ⟨0, ![]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .bf16⟩
  | .hbm, ⟨3, _⟩ => ⟨S2048x8192, .f32⟩
  | .hbm, ⟨4, _⟩ => ⟨S2048x8192, .bf16⟩
  | .local _ .vmem, ⟨0, _⟩ => ⟨S256x4096, .f32⟩
  | .local _ .vmem, ⟨1, _⟩ => ⟨S256x4096, .f32⟩
  | .local _ .vmem, ⟨2, _⟩ => ⟨S256x1024, .f32⟩
  | .local _ .vmem, ⟨3, _⟩ => ⟨S256x1024, .f32⟩
  | .local _ .vmem, ⟨4, _⟩ => ⟨S4096x1024, .bf16⟩
  | .local _ .vmem, ⟨5, _⟩ => ⟨S4096x1024, .bf16⟩
  | .local _ .vmem, ⟨6, _⟩ => ⟨S4096x1024, .f32⟩
  | .local _ .vmem, ⟨7, _⟩ => ⟨S2048x512, .bf16⟩
  | .local _ .vmem, ⟨8, _⟩ => ⟨S2048x512, .bf16⟩
  | .local _ .vmem, ⟨9, _⟩ => ⟨S2048x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_scratch4 : Ref sig .tc := ⟨.vmem, 7, rfl⟩
abbrev cc1_scratch5 : Ref sig .tc := ⟨.vmem, 8, rfl⟩
abbrev cc1_scratch6 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev barrier0 : Sem sig := 0

abbrev nD : Nat := 16
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

def k1_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k1_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k1_off1 (d0 : Dev nD) (c0_i32_18 : BitVec 32) : Fin 2 → Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let v30 : BitVec 32 := Scalar.addi v27 c0_i32_18
  ![0, v30.toNat]
def k1_off2 (d0 : Dev nD) (c0_i32_18 : BitVec 32) : Fin 2 → Nat :=
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_14 v5
  let c2048_i32_15 : BitVec 32 := 2048#32
  let v26 : BitVec 32 := Scalar.muli v25 c2048_i32_15
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let v30 : BitVec 32 := Scalar.addi v27 c0_i32_18
  ![v26.toNat, v30.toNat]
def k1_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v38 : BitVec 32 := Scalar.muli v2 c8_i32_22
  let v39 : BitVec 32 := Scalar.addi c0_i32_23 v38
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_24 : BitVec 32 := 4#32
  let v40 : BitVec 32 := Scalar.muli v9 c4_i32_24
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v42 : BitVec 32 := Scalar.muli v8 c1_i32_25
  let v43 : BitVec 32 := Scalar.addi v41 v42
  v43.toNat
def k1_dev4 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v50 : BitVec 32 := Scalar.muli v2 c8_i32_29
  let v51 : BitVec 32 := Scalar.addi c0_i32_30 v50
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_31 : BitVec 32 := 4#32
  let v52 : BitVec 32 := Scalar.muli v9 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.muli v8 c1_i32_32
  let v55 : BitVec 32 := Scalar.addi v53 v54
  v55.toNat
def k1_dev5 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v62 : BitVec 32 := Scalar.muli v2 c8_i32_36
  let v63 : BitVec 32 := Scalar.addi c0_i32_37 v62
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_38 : BitVec 32 := 4#32
  let v64 : BitVec 32 := Scalar.muli v9 c4_i32_38
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v66 : BitVec 32 := Scalar.muli v8 c1_i32_39
  let v67 : BitVec 32 := Scalar.addi v65 v66
  v67.toNat
def k1_dev6 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v74 : BitVec 32 := Scalar.muli v2 c8_i32_42
  let v75 : BitVec 32 := Scalar.addi c0_i32_43 v74
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_44 : BitVec 32 := 4#32
  let v76 : BitVec 32 := Scalar.muli v9 c4_i32_44
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v78 : BitVec 32 := Scalar.muli v8 c1_i32_45
  let v79 : BitVec 32 := Scalar.addi v77 v78
  v79.toNat
def k1_dev7 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v86 : BitVec 32 := Scalar.muli v2 c8_i32_49
  let v87 : BitVec 32 := Scalar.addi c0_i32_50 v86
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_51 : BitVec 32 := 4#32
  let v88 : BitVec 32 := Scalar.muli v9 c4_i32_51
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v90 : BitVec 32 := Scalar.muli v8 c1_i32_52
  let v91 : BitVec 32 := Scalar.addi v89 v90
  v91.toNat
def k1_dev8 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v98 : BitVec 32 := Scalar.muli v2 c8_i32_55
  let v99 : BitVec 32 := Scalar.addi c0_i32_56 v98
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_57 : BitVec 32 := 4#32
  let v100 : BitVec 32 := Scalar.muli v9 c4_i32_57
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v102 : BitVec 32 := Scalar.muli v8 c1_i32_58
  let v103 : BitVec 32 := Scalar.addi v101 v102
  v103.toNat
def k1_dev9 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v110 : BitVec 32 := Scalar.muli v2 c8_i32_61
  let v111 : BitVec 32 := Scalar.addi c0_i32_62 v110
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_63 : BitVec 32 := 4#32
  let v112 : BitVec 32 := Scalar.muli v9 c4_i32_63
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v114 : BitVec 32 := Scalar.muli v8 c1_i32_64
  let v115 : BitVec 32 := Scalar.addi v113 v114
  v115.toNat
def k1_dev10 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v122 : BitVec 32 := Scalar.muli v2 c8_i32_67
  let v123 : BitVec 32 := Scalar.addi c0_i32_68 v122
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_69 : BitVec 32 := 4#32
  let v124 : BitVec 32 := Scalar.muli v9 c4_i32_69
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v126 : BitVec 32 := Scalar.muli v8 c1_i32_70
  let v127 : BitVec 32 := Scalar.addi v125 v126
  v127.toNat
def k1_dev11 (d0 : Dev nD) : Nat :=
  let c0_i32_83 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_82 : BitVec 32 := 8#32
  let v145 : BitVec 32 := Scalar.muli v10 c8_i32_82
  let v146 : BitVec 32 := Scalar.addi c0_i32_83 v145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v147 : BitVec 32 := Scalar.muli v5 c4_i32_84
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v149 : BitVec 32 := Scalar.muli v8 c1_i32_85
  let v150 : BitVec 32 := Scalar.addi v148 v149
  v150.toNat
def k1_off3 (d0 : Dev nD) (c0_i32_88 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v24 : BitVec 32 := Scalar.muli v5 c2048_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let v157 : BitVec 32 := Scalar.addi v27 c0_i32_88
  ![v24.toNat, v157.toNat]
def k1_dev12 (d0 : Dev nD) : Nat :=
  let c0_i32_109 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_108 : BitVec 32 := 8#32
  let v183 : BitVec 32 := Scalar.muli v10 c8_i32_108
  let v184 : BitVec 32 := Scalar.addi c0_i32_109 v183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v185 : BitVec 32 := Scalar.muli v5 c4_i32_110
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v187 : BitVec 32 := Scalar.muli v8 c1_i32_111
  let v188 : BitVec 32 := Scalar.addi v186 v187
  v188.toNat
def k1_dev13 (d0 : Dev nD) : Nat :=
  let c0_i32_136 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_135 : BitVec 32 := 8#32
  let v221 : BitVec 32 := Scalar.muli v10 c8_i32_135
  let v222 : BitVec 32 := Scalar.addi c0_i32_136 v221
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_137 : BitVec 32 := 4#32
  let v223 : BitVec 32 := Scalar.muli v5 c4_i32_137
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v225 : BitVec 32 := Scalar.muli v8 c1_i32_138
  let v226 : BitVec 32 := Scalar.addi v224 v225
  v226.toNat
def k1_dev14 (d0 : Dev nD) : Nat :=
  let c0_i32_163 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_162 : BitVec 32 := 8#32
  let v259 : BitVec 32 := Scalar.muli v10 c8_i32_162
  let v260 : BitVec 32 := Scalar.addi c0_i32_163 v259
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v261 : BitVec 32 := Scalar.muli v5 c4_i32_164
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v263 : BitVec 32 := Scalar.muli v8 c1_i32_165
  let v264 : BitVec 32 := Scalar.addi v262 v263
  v264.toNat
def k1_dev15 (d0 : Dev nD) : Nat :=
  let c0_i32_190 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_189 : BitVec 32 := 8#32
  let v297 : BitVec 32 := Scalar.muli v10 c8_i32_189
  let v298 : BitVec 32 := Scalar.addi c0_i32_190 v297
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_191 : BitVec 32 := 4#32
  let v299 : BitVec 32 := Scalar.muli v5 c4_i32_191
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v301 : BitVec 32 := Scalar.muli v8 c1_i32_192
  let v302 : BitVec 32 := Scalar.addi v300 v301
  v302.toNat
def k1_dev16 (d0 : Dev nD) : Nat :=
  let c0_i32_217 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_216 : BitVec 32 := 8#32
  let v335 : BitVec 32 := Scalar.muli v10 c8_i32_216
  let v336 : BitVec 32 := Scalar.addi c0_i32_217 v335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_218 : BitVec 32 := 4#32
  let v337 : BitVec 32 := Scalar.muli v5 c4_i32_218
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v339 : BitVec 32 := Scalar.muli v8 c1_i32_219
  let v340 : BitVec 32 := Scalar.addi v338 v339
  v340.toNat
def k1_dev17 (d0 : Dev nD) : Nat :=
  let c0_i32_244 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_243 : BitVec 32 := 8#32
  let v373 : BitVec 32 := Scalar.muli v10 c8_i32_243
  let v374 : BitVec 32 := Scalar.addi c0_i32_244 v373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_245 : BitVec 32 := 4#32
  let v375 : BitVec 32 := Scalar.muli v5 c4_i32_245
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v377 : BitVec 32 := Scalar.muli v8 c1_i32_246
  let v378 : BitVec 32 := Scalar.addi v376 v377
  v378.toNat
def k1_dev18 (d0 : Dev nD) : Nat :=
  let c0_i32_271 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_270 : BitVec 32 := 8#32
  let v411 : BitVec 32 := Scalar.muli v10 c8_i32_270
  let v412 : BitVec 32 := Scalar.addi c0_i32_271 v411
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_272 : BitVec 32 := 4#32
  let v413 : BitVec 32 := Scalar.muli v5 c4_i32_272
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v415 : BitVec 32 := Scalar.muli v8 c1_i32_273
  let v416 : BitVec 32 := Scalar.addi v414 v415
  v416.toNat
def k1_off4 (d0 : Dev nD) (c0_i32_287 : BitVec 32) : Fin 2 → Nat :=
  let c0_i32_294 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_16 v2
  let c4096_i32_17 : BitVec 32 := 4096#32
  let v29 : BitVec 32 := Scalar.muli v28 c4096_i32_17
  let v438 : BitVec 32 := Scalar.addi v29 c0_i32_287
  ![0, v438.toNat]
def k1_off5 (d0 : Dev nD) (c0_i32_296 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v24 : BitVec 32 := Scalar.muli v5 c2048_i32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_16 v2
  let c4096_i32_17 : BitVec 32 := 4096#32
  let v29 : BitVec 32 := Scalar.muli v28 c4096_i32_17
  let v449 : BitVec 32 := Scalar.addi v29 c0_i32_296
  ![v24.toNat, v449.toNat]
-- ==== ReferenceIdeal.lean ====
abbrev S8192x4096 : Shape := ⟨2, ![8192, 4096]⟩
abbrev S8192x8192 : Shape := ⟨2, ![8192, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x8192, .f32⟩
  | .hbm, ⟨2, _⟩ => ⟨S4096x8192, .f32⟩
  | .hbm, ⟨3, _⟩ => ⟨S4096x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Loop.lean ====
/-
  The reduce-scatter body as four loops over the eight column chunks.

  The printed body is one long straight line. Here it is stated again as a handshake followed by four
  loops, each over the chunks 0 … 7, with one step program per loop. `body_eq_loops` says that the
  printed body is exactly this program.
-/
module

public import proofs.«01_k».proof.Proof.Gen.KernelIdeal.Skeleton
public import proofs.«01_k».proof.Proof.Gen.KernelIdeal.Points
public import Idealize.ShloMosaic.Lib.Tactic

@[expose] public section

noncomputable section

namespace Cert.KernelIdeal.Scatter

open Idealize.ShloMosaic Idealize.ShloMosaic.TcCoe Idealize.SL.Sem
open Cert.KernelIdeal Cert.KernelIdeal.Gen

variable {F : FTy → Type} [FloatOps F]

/-- A program of one TensorCore that answers with nothing. -/
abbrev Act (F : FTy → Type) [FloatOps F] := Prog (TpuEff nD τ sig (Elt F) Λ₀ .tc) PUnit

/-! ## The buffers, as the body is called on them -/

/-- The partial product of this device, 4096 by 8192. -/
abbrev partM : Memref sig .tc .hbm S4096x8192 .bf16 := Memref.whole main_v1
/-- The result of this device, 2048 by 8192. -/
abbrev outM : Memref sig .tc .hbm S2048x8192 .f32 := Memref.whole main_v2_0
/-- The buffer the other devices' copies land in, 2048 by 8192. -/
abbrev recvM : Memref sig .tc .hbm S2048x8192 .bf16 := Memref.whole main_v2_1
/-- The first addend's chunk. -/
abbrev leftM : Memref sig .tc .vmem S2048x512 .bf16 := Memref.whole cc1_scratch4
/-- The second addend's chunk. -/
abbrev rightM : Memref sig .tc .vmem S2048x512 .bf16 := Memref.whole cc1_scratch5
/-- The sum's chunk. -/
abbrev sumM : Memref sig .tc .vmem S2048x512 .f32 := Memref.whole cc1_scratch6

/-! ## The devices spoken to, the chunks and the semaphores -/

/-- The device with the other `y` coordinate. -/
def yp (d : Dev nD) : Dev nD := ⟨k1_dev1 d, k1_dev1_lt d⟩
/-- The device with the other `x` coordinate. -/
def xn (d : Dev nD) : Dev nD := ⟨k1_dev2 d, k1_dev2_lt d⟩

/-- The word `512 k`, the column offset of chunk `k`. -/
abbrev at512 (k : Fin 8) : BitVec 32 := BitVec.ofNat 32 (512 * k.val)

/-- Chunk `k` of the own half of the columns, in the landing buffer. -/
def mineRecv (d : Dev nD) (k : Fin 8) : Memref sig .tc .hbm S2048x512 .bf16 :=
  recvM.slice (Rect.unit (s := S2048x8192) (k1_off1 d (at512 k)) S2048x512.size (k1_off1_inb d k)) (fun _ => rfl)
/-- Chunk `k` of the own half of the columns, in the result. -/
def mineOut (d : Dev nD) (k : Fin 8) : Memref sig .tc .hbm S2048x512 .f32 :=
  outM.slice (Rect.unit (s := S2048x8192) (k1_off1 d (at512 k)) S2048x512.size (k1_off1_inb d k)) (fun _ => rfl)
/-- Chunk `k` of the own half of the columns, in the rows of the partial product that go to `yp d`. -/
def sendPart (d : Dev nD) (k : Fin 8) : Memref sig .tc .hbm S2048x512 .bf16 :=
  partM.slice (Rect.unit (s := S4096x8192) (k1_off2 d (at512 k)) S2048x512.size (k1_off2_inb d k)) (fun _ => rfl)
/-- Chunk `k` of the own half of the columns, in the rows of the partial product that stay. -/
def minePart (d : Dev nD) (k : Fin 8) : Memref sig .tc .hbm S2048x512 .bf16 :=
  partM.slice (Rect.unit (s := S4096x8192) (k1_off3 d (at512 k)) S2048x512.size (k1_off3_inb d k)) (fun _ => rfl)
/-- Chunk `k` of the other half of the columns, in the landing buffer. -/
def otherRecv (d : Dev nD) (k : Fin 8) : Memref sig .tc .hbm S2048x512 .bf16 :=
  recvM.slice (Rect.unit (s := S2048x8192) (k1_off4 d (at512 k)) S2048x512.size (k1_off4_inb d k)) (fun _ => rfl)
/-- Chunk `k` of the other half of the columns, in the result. -/
def otherOut (d : Dev nD) (k : Fin 8) : Memref sig .tc .hbm S2048x512 .f32 :=
  outM.slice (Rect.unit (s := S2048x8192) (k1_off4 d (at512 k)) S2048x512.size (k1_off4_inb d k)) (fun _ => rfl)
/-- Chunk `k` of the other half of the columns, in the rows of the partial product that stay. -/
def otherPart (d : Dev nD) (k : Fin 8) : Memref sig .tc .hbm S2048x512 .bf16 :=
  partM.slice (Rect.unit (s := S4096x8192) (k1_off5 d (at512 k)) S2048x512.size (k1_off5_inb d k)) (fun _ => rfl)

theorem mineRecv_words (d : Dev nD) (k : Fin 8) : (mineRecv d k).view.WordExact :=
  (Memref.isWhole_whole _).wordExact_slice rfl _ (k1_off1_wordsbf16 d k)
theorem sendPart_words (d : Dev nD) (k : Fin 8) : (sendPart d k).view.WordExact :=
  (Memref.isWhole_whole _).wordExact_slice rfl _ (k1_off2_wordsbf16 d k)
theorem minePart_words (d : Dev nD) (k : Fin 8) : (minePart d k).view.WordExact :=
  (Memref.isWhole_whole _).wordExact_slice rfl _ (k1_off3_wordsbf16 d k)
theorem otherRecv_words (d : Dev nD) (k : Fin 8) : (otherRecv d k).view.WordExact :=
  (Memref.isWhole_whole _).wordExact_slice rfl _ (k1_off4_wordsbf16 d k)
theorem otherPart_words (d : Dev nD) (k : Fin 8) : (otherPart d k).view.WordExact :=
  (Memref.isWhole_whole _).wordExact_slice rfl _ (k1_off5_wordsbf16 d k)

theorem one_in_eight : ∀ (k : Fin 8) (a : Fin 1), (![k.val] : Fin 1 → Nat) a + S1.size a ≤ S8.size a := by decide

/-- Member `k` of an array of eight semaphores. -/
def member (s : DmaSems sig S8) (k : Fin 8) : DmaSem sig :=
  ((s.slice (Rect.unit (s := S8) ![k.val] S1.size (one_in_eight k))).squeeze S_ squeezes_S1_S_).sem

/-- Counts the source side of the `y` copy of chunk `k`. -/
abbrev ySend (k : Fin 8) : DmaSem sig := member cc1_scratch0 k
/-- Counts the landing side of the `y` copy of chunk `k`. -/
abbrev yRecv (k : Fin 8) : DmaSem sig := member cc1_scratch1 k
/-- Counts the source side of the `x` copy of chunk `k`. -/
abbrev xSend (k : Fin 8) : DmaSem sig := member cc1_scratch2 k
/-- Counts the landing side of the `x` copy of chunk `k`. -/
abbrev xRecv (k : Fin 8) : DmaSem sig := member cc1_scratch3 k

/-- The barrier semaphore. -/
abbrev barS : Sem sig := (SemArray.scalar (sig.barrier 0 rfl) : Sems sig S_).sem

/-! ## The step programs -/

/-- The whole rectangle of a chunk. -/
abbrev chunkAll : Rect S2048x512 := Rect.unit (s := S2048x512) ![0, 0] S2048x512.size inb_S2048x512_S2048x512_0_0

/-- The sum of two chunks, widened. -/
abbrev added (a b : Vec F S2048x512 .bf16) : FVec F S2048x512 .f32 := k1_pay3 a b

/-- Add two chunks `p` and `r` and write the sum to `o`, through the three scratch chunks. -/
def addChunk (p : Memref sig .tc .hbm S2048x512 .bf16) (hp : p.view.WordExact)
    (r : Memref sig .tc .hbm S2048x512 .bf16) (hr : r.view.WordExact)
    (o : Memref sig .tc .hbm S2048x512 .f32) : Act F := do
  Prog.lift (.enqueueDma p (.here leftM) (.dma cc1_scratch7.sem) hp (Memref.isWhole_whole _).wordExact ⟨Or.inl rfl, trivial⟩)
  Prog.lift (.enqueueDma r (.here rightM) (.dma cc1_scratch8.sem) hr (Memref.isWhole_whole _).wordExact ⟨Or.inl rfl, trivial⟩)
  Prog.lift (.waitDma2 cc1_scratch7.sem p leftM hp (Memref.isWhole_whole _).wordExact)
  Prog.lift (.waitDma2 cc1_scratch8.sem r rightM hr (Memref.isWhole_whole _).wordExact)
  let a : Vec F S2048x512 .bf16 ← Prog.lift (.load leftM chunkAll.toLoadRect (View.loadsAt_vmem h_S2048x512))
  let b : Vec F S2048x512 .bf16 ← Prog.lift (.load rightM chunkAll.toLoadRect (View.loadsAt_vmem h_S2048x512))
  let _ : Vec F S2048x512 .f32 ← Prog.lift (.load sumM chunkAll.toLoadRect (View.loadsAt_vmem h_S2048x512))
  Prog.lift (.store sumM chunkAll (added a b) Finset.univ (View.stores_vmem_bits_univ h_S2048x512 rfl) (.inl rfl))
  Prog.lift (.enqueueDma sumM (.here o) (.dma cc1_scratch9.sem) (Memref.isWhole_whole _).wordExact (View.wordExact_bits rfl) ⟨Or.inl rfl, trivial⟩)
  Prog.lift (.waitDma2 cc1_scratch9.sem sumM o (Memref.isWhole_whole _).wordExact (View.wordExact_bits rfl))

/-- Start the `y` copy of chunk `k`. -/
def sendStep (d : Dev nD) (k : Fin 8) : Act F :=
  Prog.lift (.enqueueDma (sendPart d k) (.remote (Dev.tc (yp d)) (mineRecv d k) (.dma (ySend k))) (.dma (yRecv k))
    (sendPart_words d k) (mineRecv_words d k) ⟨⟨rfl, Or.inl rfl⟩, trivial⟩)

/-- Wait for the `y` copy of chunk `k` to land, send it on along `x`, and add it. -/
def midStep (d : Dev nD) (k : Fin 8) : Act F := do
  Prog.lift (.waitDma2 (yRecv k) (sendPart d k) (mineRecv d k) (sendPart_words d k) (mineRecv_words d k))
  Prog.lift (.enqueueDma (mineRecv d k) (.remote (Dev.tc (xn d)) (mineRecv d k) (.dma (xSend k))) (.dma (xRecv k))
    (mineRecv_words d k) (mineRecv_words d k) ⟨⟨rfl, Or.inl rfl⟩, trivial⟩)
  addChunk (minePart d k) (minePart_words d k) (mineRecv d k) (mineRecv_words d k) (mineOut d k)

/-- Wait for the `x` copy of chunk `k` to land, and add it. -/
def lateStep (d : Dev nD) (k : Fin 8) : Act F := do
  Prog.lift (.waitDma2 (xRecv k) (otherRecv d k) (otherRecv d k) (otherRecv_words d k) (otherRecv_words d k))
  addChunk (otherPart d k) (otherPart_words d k) (otherRecv d k) (otherRecv_words d k) (otherOut d k)

/-- Wait for the source sides of both copies of chunk `k`. -/
def drainStep (d : Dev nD) (k : Fin 8) : Act F := do
  Prog.lift (.waitDma2 (ySend k) (mineRecv d k) (sendPart d k) (mineRecv_words d k) (sendPart_words d k))
  Prog.lift (.waitDma2 (xSend k) (mineRecv d k) (mineRecv d k) (mineRecv_words d k) (mineRecv_words d k))

/-- Signal both neighbours and wait for both. -/
def handshake (d : Dev nD) : Act F := do
  semSignalWord (yp d) barS 1#32
  semSignalWord (xn d) barS 1#32
  semWaitWord barS 2#32

/-- Run a step for each of the chunks 0 … 7 in turn. -/
def eachChunk (f : Fin 8 → Act F) : Act F := do
  f 0; f 1; f 2; f 3; f 4; f 5; f 6; f 7

/-- The four loops. -/
def loops (d : Dev nD) : Act F := do
  handshake d
  eachChunk (sendStep d)
  eachChunk (midStep d)
  eachChunk (lateStep d)
  eachChunk (drainStep d)

set_option maxRecDepth 65536 in
/-- The printed reduce-scatter body is the handshake followed by the four loops. -/
theorem body_eq_loops (t : Fin cfg1.N) :
    (bodyAt1 (F := F) t) = Prog.lift .deviceId >>= fun d => loops (F := F) d := by
  show cc1__rs_body (F := F) _ _ _ _ _ _ _ _ _ _ _ _ _ _ _ _ _ _ _ = _
  rw [cc1__rs_body_eq_skeleton]
  sl_kernel_rfl

end Cert.KernelIdeal.Scatter

end
-- ==== Proof.Chunks.lean ====
/-
  Where the chunks lie, and what the reduce-scatter leaves in each element.

  The columns are in two halves of 4096. A device's own half is the one its `x` coordinate names. Each
  half is eight chunks of 512 columns. Everything here is about index sets and elements; nothing runs.
-/
module

public import proofs.«01_k».proof.Proof.Loop
public import Idealize.ShloMosaic.Lib.Pipeline.Value
public import Idealize.ShloMosaic.Lib.ViewIndex
public import Idealize.ShloMosaic.Lib.Pipeline.ValueKit.Geometry

@[expose] public section

noncomputable section

namespace Cert.KernelIdeal.Scatter

open Idealize.ShloMosaic Idealize.ShloMosaic.TcCoe Idealize.SL.Sem
open Cert.KernelIdeal Cert.KernelIdeal.Gen

variable {F : FTy → Type} [FloatOps F]

/-! ## The two neighbours -/

theorem yp_val (c : Dev nD) : (yp c).val = 8 * (c.val / 8) + c.val % 4 + 4 - 4 * (c.val / 4 % 2) := k1_dev1_eq c
theorem xn_val (c : Dev nD) : (xn c).val = 4 * (c.val / 4 % 2) + c.val % 4 + 8 - 8 * (c.val / 8) := k1_dev2_eq c

/-- Going to the other `y` twice is staying. -/
theorem yp_yp (c : Dev nD) : yp (yp c) = c := by revert c; decide +kernel
/-- Going to the other `x` twice is staying. -/
theorem xn_xn (c : Dev nD) : xn (xn c) = c := by revert c; decide +kernel
theorem yp_x : ∀ c : Dev nD, (yp c).val / 8 = c.val / 8 := by decide +kernel
theorem yp_y : ∀ c : Dev nD, (yp c).val / 4 % 2 = 1 - c.val / 4 % 2 := by decide +kernel
theorem xn_x : ∀ c : Dev nD, (xn c).val / 8 = 1 - c.val / 8 := by decide +kernel
theorem xn_y : ∀ c : Dev nD, (xn c).val / 4 % 2 = c.val / 4 % 2 := by decide +kernel
theorem x_le (c : Dev nD) : c.val / 8 ≤ 1 := by have := c.isLt; simp only [nD] at this; omega

/-! ## The chunks as the two devices of a copy name them -/

/-- What `c` calls its own chunk `k` is what `yp c` calls its own chunk `k`. -/
theorem mineRecv_yp (c : Dev nD) (k : Fin 8) : mineRecv (yp c) k = mineRecv c k :=
  Memref.slice_unit_congr _ (by rw [k1_off1_eq, k1_off1_eq, yp_x]) _ _ (fun _ => rfl) (fun _ => rfl)

/-- What `c` calls its own chunk `k` is what `xn c` calls chunk `k` of the other half. -/
theorem otherRecv_xn (c : Dev nD) (k : Fin 8) : otherRecv (xn c) k = mineRecv c k :=
  Memref.slice_unit_congr _ (by
    rw [k1_off4_eq, k1_off1_eq, xn_x]
    have := x_le c
    exact congrArg (fun n => ![0, n]) (by omega)) _ _ (fun _ => rfl) (fun _ => rfl)

/-! ## The elements of the chunks -/

variable (P : Dev nD → Vec F S4096x8192 .bf16)

/-- Element `(i, j)` of the rows of the partial product that device `c` keeps. -/
def kept (c : Dev nD) (i : S2048x8192.Idx) : S4096x8192.Idx :=
  fun a => match a with
    | ⟨0, _⟩ => ⟨2048 * (c.val / 4 % 2) + (i 0).val, by
        have h : (i 0).val < 2048 := (i 0).isLt
        show _ < 4096
        omega⟩
    | ⟨1, _⟩ => ⟨(i 1).val, (i 1).isLt⟩

/-- What the landing buffer of `c` holds at the end: in the own half of the columns the kept rows of the
    other `y`'s partial product, in the other half the kept rows of the partial product of the device
    with both coordinates changed. -/
def recvF (c : Dev nD) (i : S2048x8192.Idx) : Elt F .bf16 :=
  if (i 1).val / 4096 = c.val / 8 then P (yp c) (kept c i) else P (yp (xn c)) (kept c i)

/-- The sum of two elements, each widened first. -/
def plus (a b : F .bf16) : F .f32 :=
  FloatOps.addf (FloatOps.extf .f32 bitsLt_bf16_f32 a) (FloatOps.extf .f32 bitsLt_bf16_f32 b)

/-- What the result of `c` holds at the end: the kept rows of the own partial product, plus what landed. -/
def outF (c : Dev nD) (i : S2048x8192.Idx) : Elt F .f32 := plus (P c (kept c i)) (recvF P c i)

/-- A chunk's sum, element by element. -/
theorem added_apply (a b : Vec F S2048x512 .bf16) (j : S2048x512.Idx) : added a b j = plus (a j) (b j) := by
  show k1_pay3 a b j = _
  unfold k1_pay3
  rw [shapeCast_self]
  rfl

/-! ## The places of a chunk's elements -/

/-- Where element `j` of the own chunk `k` lies, in the landing buffer and in the result. -/
def atMine (c : Dev nD) (k : Fin 8) (j : S2048x512.Idx) : S2048x8192.Idx := (mineRecv c k).view.emb j
/-- Where element `j` of the other half's chunk `k` lies, in the landing buffer and in the result. -/
def atOther (c : Dev nD) (k : Fin 8) (j : S2048x512.Idx) : S2048x8192.Idx := (otherRecv c k).view.emb j
/-- Where element `j` of the own chunk `k` lies in the rows of the partial product that are sent. -/
def atSend (c : Dev nD) (k : Fin 8) (j : S2048x512.Idx) : S4096x8192.Idx := (sendPart c k).view.emb j
/-- Where element `j` of the own chunk `k` lies in the rows of the partial product that are kept. -/
def atMinePart (c : Dev nD) (k : Fin 8) (j : S2048x512.Idx) : S4096x8192.Idx := (minePart c k).view.emb j
/-- Where element `j` of the other half's chunk `k` lies in the rows of the partial product that are kept. -/
def atOtherPart (c : Dev nD) (k : Fin 8) (j : S2048x512.Idx) : S4096x8192.Idx := (otherPart c k).view.emb j

theorem atMine_val (c : Dev nD) (k : Fin 8) (j : S2048x512.Idx) (a : Fin 2) :
    (atMine c k j a).val = (![0, 4096 * (c.val / 8) + 512 * k.val] : Fin 2 → Nat) a + (j a).val := by
  rw [← k1_off1_eq c k]; exact ValueKit.view_emb_slice_whole_unit_val main_v2_1 _ _ _ j a
theorem atOther_val (c : Dev nD) (k : Fin 8) (j : S2048x512.Idx) (a : Fin 2) :
    (atOther c k j a).val = (![0, 512 * k.val + 4096 - 4096 * (c.val / 8)] : Fin 2 → Nat) a + (j a).val := by
  rw [← k1_off4_eq c k]; exact ValueKit.view_emb_slice_whole_unit_val main_v2_1 _ _ _ j a
theorem atSend_val (c : Dev nD) (k : Fin 8) (j : S2048x512.Idx) (a : Fin 2) :
    (atSend c k j a).val
      = (![2048 - 2048 * (c.val / 4 % 2), 4096 * (c.val / 8) + 512 * k.val] : Fin 2 → Nat) a + (j a).val := by
  rw [← k1_off2_eq c k]; exact ValueKit.view_emb_slice_whole_unit_val main_v1 _ _ _ j a
theorem atMinePart_val (c : Dev nD) (k : Fin 8) (j : S2048x512.Idx) (a : Fin 2) :
    (atMinePart c k j a).val
      = (![2048 * (c.val / 4 % 2), 4096 * (c.val / 8) + 512 * k.val] : Fin 2 → Nat) a + (j a).val := by
  rw [← k1_off3_eq c k]; exact ValueKit.view_emb_slice_whole_unit_val main_v1 _ _ _ j a
theorem atOtherPart_val (c : Dev nD) (k : Fin 8) (j : S2048x512.Idx) (a : Fin 2) :
    (atOtherPart c k j a).val
      = (![2048 * (c.val / 4 % 2), 512 * k.val + 4096 - 4096 * (c.val / 8)] : Fin 2 → Nat) a + (j a).val := by
  rw [← k1_off5_eq c k]; exact ValueKit.view_emb_slice_whole_unit_val main_v1 _ _ _ j a

/-- Two places of the partial product are one when their rows and their columns agree. -/
theorem part_idx_ext {i i' : S4096x8192.Idx} (h0 : (i 0).val = (i' 0).val) (h1 : (i 1).val = (i' 1).val) : i = i' := by
  funext a
  match a with
  | ⟨0, _⟩ => exact Fin.ext h0
  | ⟨1, _⟩ => exact Fin.ext h1

theorem kept_row (c : Dev nD) (i : S2048x8192.Idx) : (kept c i 0).val = 2048 * (c.val / 4 % 2) + (i 0).val := rfl
theorem kept_col (c : Dev nD) (i : S2048x8192.Idx) : (kept c i 1).val = (i 1).val := rfl

/-- In the own half of the columns. -/
theorem recvF_mine (c : Dev nD) (i : S2048x8192.Idx) (h : (i 1).val / 4096 = c.val / 8) :
    recvF P c i = P (yp c) (kept c i) := if_pos h
/-- In the other half of the columns. -/
theorem recvF_other (c : Dev nD) (i : S2048x8192.Idx) (h : ¬ (i 1).val / 4096 = c.val / 8) :
    recvF P c i = P (yp (xn c)) (kept c i) := if_neg h

theorem half_mine (c : Dev nD) (k : Fin 8) (j : S2048x512.Idx) : (atMine c k j 1).val / 4096 = c.val / 8 := by
  have e := atMine_val c k j 1
  have hj : (j 1).val < 512 := (j 1).isLt
  have hk := k.isLt
  simp only [Matrix.cons_val_one, Matrix.cons_val_fin_one] at e
  omega

theorem half_other (c : Dev nD) (k : Fin 8) (j : S2048x512.Idx) : ¬ (atOther c k j 1).val / 4096 = c.val / 8 := by
  have e := atOther_val c k j 1
  have hj : (j 1).val < 512 := (j 1).isLt
  have hk := k.isLt
  have hx := x_le c
  simp only [Matrix.cons_val_one, Matrix.cons_val_fin_one] at e
  omega

/-- The kept rows of `yp c` are the rows `c` sends it. -/
theorem atSend_eq (c : Dev nD) (k : Fin 8) (j : S2048x512.Idx) : atSend c k j = kept (yp c) (atMine c k j) := by
  refine part_idx_ext ?_ ?_
  · rw [kept_row, yp_y, atSend_val, atMine_val]
    have : c.val / 4 % 2 < 2 := Nat.mod_lt _ (by decide)
    simp only [Matrix.cons_val_zero]
    omega
  · rw [kept_col, atSend_val, atMine_val]; rfl

theorem atMinePart_eq (c : Dev nD) (k : Fin 8) (j : S2048x512.Idx) : atMinePart c k j = kept c (atMine c k j) := by
  refine part_idx_ext ?_ ?_
  · rw [kept_row, atMinePart_val, atMine_val]; simp
  · rw [kept_col, atMinePart_val, atMine_val]; rfl

theorem atOtherPart_eq (c : Dev nD) (k : Fin 8) (j : S2048x512.Idx) : atOtherPart c k j = kept c (atOther c k j) := by
  refine part_idx_ext ?_ ?_
  · rw [kept_row, atOtherPart_val, atOther_val]; simp
  · rw [kept_col, atOtherPart_val, atOther_val]; rfl

/-! ## What lands -/

/-- The `y` copy of chunk `k` carries what the landing buffer of `yp c` is to hold there. -/
theorem land_y (c : Dev nD) (k : Fin 8) :
    (sendPart c k).view.read (Elt F) (P c) = (mineRecv c k).view.read (Elt F) (recvF P (yp c)) := by
  funext j
  show P c (atSend c k j) = recvF P (yp c) (atMine c k j)
  rw [recvF_mine _ _ _ ((half_mine c k j).trans (yp_x c).symm), yp_yp, atSend_eq]

/-- The `x` copy of chunk `k` carries what the landing buffer of `xn c` is to hold there. -/
theorem land_x (c : Dev nD) (k : Fin 8) :
    (mineRecv c k).view.read (Elt F) (recvF P c) = (mineRecv c k).view.read (Elt F) (recvF P (xn c)) := by
  funext j
  show recvF P c (atMine c k j) = recvF P (xn c) (atMine c k j)
  have hx := x_le c
  rw [recvF_mine _ _ _ (half_mine c k j), recvF_other _ _ _ (by rw [half_mine c k j, xn_x]; omega), xn_xn]
  refine congrArg (P (yp c)) (part_idx_ext ?_ rfl)
  rw [kept_row, kept_row, xn_y]

/-- Adding the own chunk `k` gives what the result is to hold there. -/
theorem land_mine (c : Dev nD) (k : Fin 8) :
    added ((minePart c k).view.read (Elt F) (P c)) ((mineRecv c k).view.read (Elt F) (recvF P c))
      = (mineOut c k).view.read (Elt F) (outF P c) := by
  funext j
  rw [added_apply]
  show plus (P c (atMinePart c k j)) (recvF P c (atMine c k j)) = outF P c (atMine c k j)
  rw [atMinePart_eq]; rfl

/-- Adding chunk `k` of the other half gives what the result is to hold there. -/
theorem land_other (c : Dev nD) (k : Fin 8) :
    added ((otherPart c k).view.read (Elt F) (P c)) ((otherRecv c k).view.read (Elt F) (recvF P c))
      = (otherOut c k).view.read (Elt F) (outF P c) := by
  funext j
  rw [added_apply]
  show plus (P c (atOtherPart c k j)) (recvF P c (atOther c k j)) = outF P c (atOther c k j)
  rw [atOtherPart_eq]; rfl

/-- Writing through a view what `g` reads there leaves `g` on the view's elements. -/
theorem write_eq_on {Val : EltTy → Type} {sp : Space} {s : Shape} {e : EltTy} (v : View sig .tc sp s e)
    (g f : v.ty.Contents Val) (w : s.Idx → Val e) (h : w = v.read Val g) :
    ∀ i ∈ v.set, v.write Val f w Finset.univ i = g i := by
  intro i hi
  obtain ⟨x, -, rfl⟩ := Finset.mem_map.mp hi
  rw [View.write_emb_of_mem _ _ (Finset.mem_univ x), h, View.read_apply, cast_cast, cast_eq]

/-! ## The chunks cut the buffers up -/

/-- The elements of a buffer of 8192 columns whose row is in one block and whose column is in one block
    of 512. -/
def Tile {n : Nat} (row height col : Nat) (i : (⟨2, ![n, 8192]⟩ : Shape).Idx) : Prop :=
  (row ≤ (i 0).val ∧ (i 0).val < row + height) ∧ col ≤ (i 1).val ∧ (i 1).val < col + 512

theorem mem_tile {n : Nat} {off : Fin 2 → Nat} {row col : Nat} (h : off = ![row, col])
    {inb : ∀ a, off a + S2048x512.size a ≤ (⟨2, ![n, 8192]⟩ : Shape).size a} (i : (⟨2, ![n, 8192]⟩ : Shape).Idx) :
    i ∈ (Rect.unit (s := ⟨2, ![n, 8192]⟩) off S2048x512.size inb).set ↔ Tile row 2048 col i := by
  subst h
  rw [Rect.mem_set_unit]
  exact Fin.forall_fin_two

theorem mem_mineRecv (c : Dev nD) (k : Fin 8) (i : S2048x8192.Idx) :
    i ∈ (mineRecv c k).view.set ↔ Tile 0 2048 (4096 * (c.val / 8) + 512 * k.val) i :=
  ValueKit.mem_set_slice_whole_iff main_v2_1 _ i (mem_tile (k1_off1_eq c k) i)
theorem mem_otherRecv (c : Dev nD) (k : Fin 8) (i : S2048x8192.Idx) :
    i ∈ (otherRecv c k).view.set ↔ Tile 0 2048 (512 * k.val + 4096 - 4096 * (c.val / 8)) i :=
  ValueKit.mem_set_slice_whole_iff main_v2_1 _ i (mem_tile (k1_off4_eq c k) i)
theorem mem_sendPart (c : Dev nD) (k : Fin 8) (i : S4096x8192.Idx) :
    i ∈ (sendPart c k).view.set ↔ Tile (2048 - 2048 * (c.val / 4 % 2)) 2048 (4096 * (c.val / 8) + 512 * k.val) i :=
  ValueKit.mem_set_slice_whole_iff main_v1 _ i (mem_tile (k1_off2_eq c k) i)
theorem mem_minePart (c : Dev nD) (k : Fin 8) (i : S4096x8192.Idx) :
    i ∈ (minePart c k).view.set ↔ Tile (2048 * (c.val / 4 % 2)) 2048 (4096 * (c.val / 8) + 512 * k.val) i :=
  ValueKit.mem_set_slice_whole_iff main_v1 _ i (mem_tile (k1_off3_eq c k) i)
theorem mem_otherPart (c : Dev nD) (k : Fin 8) (i : S4096x8192.Idx) :
    i ∈ (otherPart c k).view.set ↔ Tile (2048 * (c.val / 4 % 2)) 2048 (512 * k.val + 4096 - 4096 * (c.val / 8)) i :=
  ValueKit.mem_set_slice_whole_iff main_v1 _ i (mem_tile (k1_off5_eq c k) i)

/-- The chunks of a buffer of 2048 rows: of the own half (`true`) and of the other. -/
def recvPiece (c : Dev nD) (p : Bool × Fin 8) : Finset S2048x8192.Idx :=
  if p.1 then (mineRecv c p.2).view.set else (otherRecv c p.2).view.set

/-- The first column of a chunk. -/
def pieceCol (c : Dev nD) (p : Bool × Fin 8) : Nat :=
  if p.1 then 4096 * (c.val / 8) + 512 * p.2.val else 512 * p.2.val + 4096 - 4096 * (c.val / 8)

theorem mem_recvPiece (c : Dev nD) (p : Bool × Fin 8) (i : S2048x8192.Idx) :
    i ∈ recvPiece c p ↔ Tile 0 2048 (pieceCol c p) i := by
  obtain ⟨b, k⟩ := p
  cases b
  · exact mem_otherRecv c k i
  · exact mem_mineRecv c k i

/-- Different chunks start at different columns, 512 apart. -/
theorem pieceCol_apart : ∀ (c : Dev nD) (p q : Bool × Fin 8), p ≠ q →
    pieceCol c p + 512 ≤ pieceCol c q ∨ pieceCol c q + 512 ≤ pieceCol c p := by decide +kernel

/-- Every column is in a chunk. -/
theorem pieceCol_cover (c : Dev nD) (n : Nat) (hn : n < 8192) :
    ∃ p : Bool × Fin 8, pieceCol c p ≤ n ∧ n < pieceCol c p + 512 := by
  have hx := x_le c
  by_cases h : n / 4096 = c.val / 8
  · refine ⟨(true, ⟨n % 4096 / 512, by omega⟩), ?_⟩
    show 4096 * (c.val / 8) + 512 * (n % 4096 / 512) ≤ n ∧ n < 4096 * (c.val / 8) + 512 * (n % 4096 / 512) + 512
    omega
  · refine ⟨(false, ⟨n % 4096 / 512, by omega⟩), ?_⟩
    show 512 * (n % 4096 / 512) + 4096 - 4096 * (c.val / 8) ≤ n
      ∧ n < 512 * (n % 4096 / 512) + 4096 - 4096 * (c.val / 8) + 512
    omega

theorem recvPiece_disjoint (c : Dev nD) (p q : Bool × Fin 8) (h : p ≠ q) :
    Disjoint (recvPiece c p) (recvPiece c q) := by
  rw [Finset.disjoint_left]
  intro i hp hq
  rw [mem_recvPiece] at hp hq
  have := pieceCol_apart c p q h
  unfold Tile at hp hq
  omega

theorem recvPiece_cover (c : Dev nD) : Finset.univ.biUnion (recvPiece c) = Finset.univ := by
  refine Finset.eq_univ_iff_forall.mpr fun i => ?_
  obtain ⟨p, hp⟩ := pieceCol_cover c (i 1).val (i 1).isLt
  have h0 : (i 0).val < 2048 := (i 0).isLt
  exact Finset.mem_biUnion.mpr ⟨p, Finset.mem_univ p, (mem_recvPiece c p i).mpr ⟨⟨Nat.zero_le _, by omega⟩, hp⟩⟩

/-- The chunks of the partial product that the body reads: those it sends (`none`), and the kept rows of
    the own half and of the other. -/
def partPiece (c : Dev nD) (p : Option Bool × Fin 8) : Finset S4096x8192.Idx :=
  match p.1 with
  | none => (sendPart c p.2).view.set
  | some true => (minePart c p.2).view.set
  | some false => (otherPart c p.2).view.set

/-- The first row of such a chunk. -/
def partRow (c : Dev nD) (o : Option Bool) : Nat :=
  match o with
  | none => 2048 - 2048 * (c.val / 4 % 2)
  | some _ => 2048 * (c.val / 4 % 2)

theorem mem_partPiece (c : Dev nD) (p : Option Bool × Fin 8) (i : S4096x8192.Idx) :
    i ∈ partPiece c p ↔ Tile (partRow c p.1) 2048 (pieceCol c (p.1.getD true, p.2)) i := by
  obtain ⟨o, k⟩ := p
  match o with
  | none => exact mem_sendPart c k i
  | some true => exact mem_minePart c k i
  | some false => exact mem_otherPart c k i

theorem partRow_apart : ∀ (c : Dev nD) (o o' : Option Bool), o.isSome ≠ o'.isSome →
    partRow c o + 2048 ≤ partRow c o' ∨ partRow c o' + 2048 ≤ partRow c o := by decide +kernel

theorem partPiece_disjoint (c : Dev nD) (p q : Option Bool × Fin 8) (h : p ≠ q) :
    Disjoint (partPiece c p) (partPiece c q) := by
  rw [Finset.disjoint_left]
  intro i hp hq
  rw [mem_partPiece] at hp hq
  unfold Tile at hp hq
  by_cases hs : p.1.isSome = q.1.isSome
  · have := pieceCol_apart c (p.1.getD true, p.2) (q.1.getD true, q.2) (by
      obtain ⟨o, k⟩ := p
      obtain ⟨o', k'⟩ := q
      intro e
      simp only [Prod.mk.injEq] at e
      obtain ⟨e1, rfl⟩ := e
      apply h
      cases o <;> cases o' <;> simp_all)
    omega
  · have := partRow_apart c p.1 q.1 hs
    omega

end Cert.KernelIdeal.Scatter

end
-- ==== Proof.Protocol.lean ====
/-
  The protocol of the reduce-scatter: its semaphore cells, who pays each of them and what is handed over.

  Every device has one barrier cell and thirty-two copy cells, eight for each of four legs. A copy of chunk `k`
  along `y` pays the sender's `ySrc` cell with the source rows back, and the receiver's `yDst` cell with the
  landed chunk. The copy along `x` does the same with the `xSrc` and `xDst` cells. The barrier cell of a device is
  paid once by each of its two neighbours. Each hands over the chunks of its own landing buffer that this device
  will write.
-/
module

public import proofs.«01_k».proof.Proof.Chunks
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.Transfers
public import Idealize.ShloMosaic.Lib.Pipeline.RegionTalk

@[expose] public section

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- Three components: the pipelines' staging cells, the protocol's cells, and the counters of local copies. -/
abbrev UU : Type := UR sig nD τ × (URounds (GSem nD τ sig) Bool × Counters)

local notation "𝕄" => MT nD τ sig Unit (Elt F) ℕ UU ℕ

abbrev EP : Emb (UR sig nD τ) (MT nD τ sig Unit (Elt F) ℕ UU ℕ) := embL
/-- The protocol's component. -/
def ER : Emb (URounds (GSem nD τ sig) Bool) (MT nD τ sig Unit (Elt F) ℕ UU ℕ) :=
  (Emb.inl : Emb (URounds (GSem nD τ sig) Bool) (URounds (GSem nD τ sig) Bool × Counters)).trans embR
instance ER_landsIn : (ER : Emb (URounds (GSem nD τ sig) Bool) 𝕄).LandsIn (upEmb : UEmb _ 𝕄) := by
  unfold ER embR; infer_instance

abbrev 𝒱₀ : Variants := Variants.none

/-! ## The cells -/

/-- The four copy cells of a chunk. -/
inductive Leg where
  | ySrc | yDst | xSrc | xDst
deriving DecidableEq

instance : Fintype Leg := ⟨{.ySrc, .yDst, .xSrc, .xDst}, fun l => by cases l <;> decide⟩

/-- A leg's semaphore for chunk `k`. -/
def legSem (q : Leg × Fin 8) : DmaSem sig :=
  match q.1 with
  | .ySrc => ySend q.2
  | .yDst => yRecv q.2
  | .xSrc => xSend q.2
  | .xDst => xRecv q.2

theorem legSem_inj : Function.Injective legSem := by
  intro p q; revert p q; decide +kernel

/-- Device `c`'s barrier cell. -/
abbrev barCell (c : Dev nD) : GSem nD τ sig := ((c : Thread nD τ), .reg barS)
/-- Device `c`'s copy cell `q`. -/
def legCell (c : Dev nD) (q : Leg × Fin 8) : GSem nD τ sig := ((c : Thread nD τ), .dma (legSem q))

theorem leg_ne_bar (q : Leg × Fin 8) : (SemLoc.dma (legSem q) : SemLoc sig) ≠ .reg barS := fun h => by cases h

open Classical in
/-- Which copy cell a semaphore is, if it is one. -/
def legOf (s : SemLoc sig) : Option (Leg × Fin 8) :=
  if h : ∃ q, s = .dma (legSem q) then some h.choose else none

theorem legOf_leg (q : Leg × Fin 8) : legOf (.dma (legSem q)) = some q := by
  have h : ∃ p, (SemLoc.dma (legSem q) : SemLoc sig) = .dma (legSem p) := ⟨q, rfl⟩
  unfold legOf
  rw [dif_pos h]
  have e := h.choose_spec
  rw [SemLoc.dma.injEq] at e
  exact congrArg some (legSem_inj e).symm

/-- The units one chunk's copy adds. -/
abbrev N : ℕ := (mineRecv 0 0).view.dmaCredit
theorem N_pos : 0 < N := View.dmaCredit_pos _ (by decide)

/-- The device that pays a leg's cell, and whose cell this device pays: the own one for the source side. -/
def peer : Leg → Dev nD → Dev nD
  | .ySrc, c => c
  | .yDst, c => yp c
  | .xSrc, c => c
  | .xDst, c => xn c

theorem peer_peer (l : Leg) (c : Dev nD) : peer l (peer l c) = c := by
  cases l
  · rfl
  · exact yp_yp c
  · rfl
  · exact xn_xn c

/-! ## Parts of buffers -/

/-- Part `I` of the landing buffer of `c`. -/
def recvPts (c : Dev nD) (I : Finset S2048x8192.Idx) (q : PosShare TreeShare) (f : Vec F S2048x8192 .bf16) : sProp 𝕄 :=
  (c : Thread nD τ).loc main_v2_1 ↦[I]{q} f
/-- Part `I` of the partial product of `c`. -/
def partPts (c : Dev nD) (I : Finset S4096x8192.Idx) (q : PosShare TreeShare) (f : Vec F S4096x8192 .bf16) : sProp 𝕄 :=
  (c : Thread nD τ).loc main_v1 ↦[I]{q} f
/-- Part `I` of the result of `c`. -/
def outPts (c : Dev nD) (I : Finset S2048x8192.Idx) (q : PosShare TreeShare) (f : Vec F S2048x8192 .f32) : sProp 𝕄 :=
  (c : Thread nD τ).loc main_v2_0 ↦[I]{q} f

instance recvPts_storable (c : Dev nD) (I : Finset S2048x8192.Idx) (q : PosShare TreeShare) (f : Vec F S2048x8192 .bf16) :
    BI.Storable (upEmb : UEmb _ 𝕄) (recvPts c I q f) := by unfold recvPts; infer_instance
instance partPts_storable (c : Dev nD) (I : Finset S4096x8192.Idx) (q : PosShare TreeShare) (f : Vec F S4096x8192 .bf16) :
    BI.Storable (upEmb : UEmb _ 𝕄) (partPts c I q f) := by unfold partPts; infer_instance

/-- The own chunk is the neighbour's own chunk along `y`. -/
theorem recvPiece_yp (c : Dev nD) (k : Fin 8) : recvPiece (yp c) (true, k) = recvPiece c (true, k) := by
  ext i
  rw [mem_recvPiece, mem_recvPiece]
  unfold pieceCol
  simp only [yp_x]
/-- The own chunk is the other half's chunk of the neighbour along `x`. -/
theorem recvPiece_xn (c : Dev nD) (k : Fin 8) : recvPiece (xn c) (false, k) = recvPiece c (true, k) := by
  ext i
  rw [mem_recvPiece, mem_recvPiece]
  unfold pieceCol
  have := x_le c
  simp only [xn_x, Bool.false_eq_true, if_false, if_true]
  rw [show 512 * k.val + 4096 - 4096 * (1 - c.val / 8) = 4096 * (c.val / 8) + 512 * k.val by omega]

/-! ## What each payment hands over -/

/-- The leg of a landing: along `y` for `true`, along `x` for `false`. -/
def landLeg : Bool → Leg
  | true => .yDst
  | false => .xDst

/-- The neighbour who pays the barrier with duty `d`: along `y` for `true`, along `x` for `false`. -/
def nbr (d : Bool) (c : Dev nD) : Dev nD := peer (landLeg d) c

variable (P : Dev nD → Vec F S4096x8192 .bf16)

/-- Paid to the barrier of `c` by a neighbour: the chunks of its landing buffer that `c` will write, at any contents,
    and that their landing cells are open. -/
def barPay (c : Dev nD) (d : Bool) : sProp 𝕄 :=
  bigSep Finset.univ fun k : Fin 8 =>
    iprop((∃ f, recvPts (nbr d c) (recvPiece c (true, k)) fullShare f) ∗ reached ER (legCell (nbr d c) (landLeg d, k)) 0)

/-- Paid to the copy cell of `c`: for a source side the source back, for a landing side the landed chunk. -/
def legPay (c : Dev nD) (q : Leg × Fin 8) : sProp 𝕄 :=
  match q.1 with
  | .ySrc => partPts c (partPiece c (none, q.2)) fullShare (P c)
  | .yDst => recvPts c (recvPiece c (true, q.2)) fullShare (recvF P c)
  | .xSrc => recvPts c (recvPiece c (true, q.2)) fullShare.right (recvF P c)
  | .xDst => recvPts c (recvPiece c (false, q.2)) fullShare (recvF P c)

instance barPay_storable (c : Dev nD) (d : Bool) : BI.Storable (upEmb : UEmb _ 𝕄) (barPay c d) := by
  unfold barPay; infer_instance
instance legPay_storable (c : Dev nD) (q : Leg × Fin 8) : BI.Storable (upEmb : UEmb _ 𝕄) (legPay P c q) := by
  obtain ⟨l, k⟩ := q
  cases l <;> (unfold legPay; infer_instance)

open Classical in
/-- One round on every cell: two payments of one unit on a barrier, one payment of a chunk's units on a copy cell. -/
def sched : Schedule (GSem nD τ sig) Bool 𝕄 where
  duties g r :=
    if r = 0 ∧ g.1.2 = .tc then
      if g.2 = .reg barS then Finset.univ else if (legOf g.2).isSome then {true} else ∅
    else ∅
  unitless _ := False
  amount g _ _ := if g.2 = .reg barS then 1 else N
  payload g _ d :=
    if g.2 = .reg barS then barPay g.1.1 d
    else match legOf g.2 with
      | some q => legPay P g.1.1 q
      | none => iprop(emp)
  amount_pos g _ _ _ := by
    by_cases h : g.2 = .reg barS
    · rw [if_pos h]; exact Nat.one_pos
    · rw [if_neg h]; exact N_pos

instance sched_storable (g : GSem nD τ sig) (r : ℕ) (d : Bool) :
    BI.Storable (upEmb : UEmb _ 𝕄) ((sched (F := F) P).payload g r d) := by
  unfold sched
  dsimp only
  split
  · infer_instance
  · split <;> infer_instance

section Sched

variable (c : Dev nD) (q : Leg × Fin 8)

theorem duties_bar : (sched P).duties (barCell c) 0 = Finset.univ := by
  dsimp only [sched]; rw [if_pos ⟨rfl, rfl⟩, if_pos rfl]
theorem duties_leg : (sched P).duties (legCell c q) 0 = {true} := by
  dsimp only [sched, legCell]; rw [if_pos ⟨rfl, rfl⟩, if_neg (leg_ne_bar q), legOf_leg]; rfl
theorem duties_later (g : GSem nD τ sig) : ∀ r, 1 ≤ r → (sched P).duties g r = ∅ :=
  fun r hr => by dsimp only [sched]; rw [if_neg (fun h => by omega)]
theorem amount_bar (d : Bool) : (sched P).amount (barCell c) 0 d = 1 := by dsimp only [sched]; exact if_pos rfl
theorem amount_leg (d : Bool) : (sched P).amount (legCell c q) 0 d = N := by
  dsimp only [sched, legCell]; exact if_neg (leg_ne_bar q)
theorem expect_bar : (sched P).expect (barCell c) 0 = 2 := by
  unfold Schedule.expect Schedule.amountOf
  rw [duties_bar, Finset.sum_congr rfl fun d _ => amount_bar P c d]; rfl
theorem expect_leg : (sched P).expect (legCell c q) 0 = N := by
  unfold Schedule.expect Schedule.amountOf; rw [duties_leg, Finset.sum_singleton, amount_leg]
theorem payload_bar (d : Bool) : (sched P).payload (barCell c) 0 d = barPay c d := by
  dsimp only [sched]; exact if_pos rfl
theorem payload_leg (d : Bool) : (sched P).payload (legCell c q) 0 d = legPay P c q := by
  dsimp only [sched, legCell]; rw [if_neg (leg_ne_bar q), legOf_leg]
theorem rest_bar : bigSep ((sched P).duties (barCell c) 0 \ ∅) (fun d => (sched P).payload (barCell c) 0 d)
    = iprop(barPay c true ∗ barPay c false) := by
  rw [Finset.sdiff_empty, duties_bar, bigSep_congr fun d _ => payload_bar P c d]
  exact bigSep_univ_eq_bigSepL [true, false] (by decide) (by decide) _
theorem rest_leg : bigSep ((sched P).duties (legCell c q) 0 \ ∅) (fun d => (sched P).payload (legCell c q) 0 d)
    = legPay P c q := by
  rw [Finset.sdiff_empty, duties_leg, bigSep_singleton, payload_leg]

end Sched

/-! ## What a device owes, and the levels -/

/-- The units still to be paid on a leg from chunk `n` on. -/
def owesLeg (l : Leg) (c : Dev nD) (n : ℕ) : CellTallies nD τ sig Unit :=
  ∑ k ∈ Finset.univ.filter (fun k : Fin 8 => n ≤ k.val), tallyAt (legCell (peer l c) (l, k)) () N

theorem owesLeg_step (l : Leg) (c : Dev nD) (k : Fin 8) :
    owesLeg l c k.val = owesLeg l c (k.val + 1) + tallyAt (legCell (peer l c) (l, k)) () N := by
  unfold owesLeg
  rw [show (Finset.univ.filter fun j : Fin 8 => k.val ≤ j.val)
      = insert k (Finset.univ.filter fun j : Fin 8 => k.val + 1 ≤ j.val) by
        ext j
        simp only [Finset.mem_filter, Finset.mem_univ, true_and, Finset.mem_insert, Fin.ext_iff]
        omega,
    Finset.sum_insert (by simp), add_comm]
theorem owesLeg_end (l : Leg) (c : Dev nD) : owesLeg l c 8 = 0 := by
  unfold owesLeg
  rw [Finset.filter_false_of_mem (fun k _ => by omega), Finset.sum_empty]

/-- What a device owes from the start: one unit on each neighbour's barrier, and the landing units of every chunk. -/
def O₀ (c : Dev nD) : CellTallies nD τ sig Unit :=
  owesLeg .yDst c 0 + owesLeg .xDst c 0 + tallyAt (barCell (nbr false c)) () 1 + tallyAt (barCell (nbr true c)) () 1

/-- Every cell of a device's core is waited for at one index. -/
def L (g : GSem nD τ sig) : Finset Unit := if g.1.2 = .tc then {()} else ∅

open Classical in
/-- The barriers are waited for first, then the landings along `y`, then those along `x`. -/
def lv (g : GSem nD τ sig) (_ : Unit) : ℕ :=
  if g.2 = .reg barS then 1
  else match legOf g.2 with
    | some (.yDst, _) => 2
    | some (.xDst, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_yDst (c : Dev nD) (k : Fin 8) (u : Unit) : lv (legCell c (.yDst, k)) u = 2 := by
  dsimp only [lv, legCell]; rw [if_neg (leg_ne_bar _), legOf_leg]
theorem lv_xDst (c : Dev nD) (k : Fin 8) (u : Unit) : lv (legCell c (.xDst, k)) u = 3 := by
  dsimp only [lv, legCell]; rw [if_neg (leg_ne_bar _), legOf_leg]
/-- A semaphore that is neither the barrier nor a copy cell is at the lowest level. -/
theorem lv_other (g : GSem nD τ sig) (hb : g.2 ≠ .reg barS) (h : ∀ q, g.2 ≠ .dma (legSem q)) (u : Unit) : lv g u = 0 := by
  dsimp only [lv]
  rw [if_neg hb, show legOf g.2 = none from dif_neg (fun ⟨q, hq⟩ => h q hq)]

/-- A cell with units owed on it along a leg is one of the leg's cells. -/
theorem owesLeg_pos {l : Leg} {c : Dev nD} {n : ℕ} {g : GSem nD τ sig} {u : Unit} (h : 0 < owesLeg l c n g u) :
    ∃ k, g = legCell (peer l c) (l, k) := by
  unfold owesLeg at h
  rw [Finset.sum_apply, Finsupp.finset_sum_apply] at h
  obtain ⟨k, -, hk⟩ := Finset.exists_ne_zero_of_sum_ne_zero (Nat.pos_iff_ne_zero.mp h)
  rw [tallyAt_apply] at hk
  split at hk
  · next hg => exact ⟨k, hg.1⟩
  · exact absurd rfl hk

/-- A device may wait at level `b` while it owes only on cells above `b`. -/
theorem mayWait_of (c : Dev nD) (sm : SemLoc sig) (O : CellTallies nD τ sig Unit) (b : ℕ)
    (hb : lv ((c : Thread nD τ), sm) () ≤ b)
    (hO : ∀ g u, 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-- Below the `x` landings everything but they may be waited for while they are owed. -/
theorem mayWait_x (c : Dev nD) (sm : SemLoc sig) (n : ℕ) (hb : lv ((c : Thread nD τ), sm) () ≤ 2) :
    (levAts L lv : sProp 𝕄) ⊢ MayWait (c : Thread nD τ) sm () (owesLeg .xDst c n) :=
  mayWait_of c sm _ 2 hb fun g u hg => by
    obtain ⟨k, rfl⟩ := owesLeg_pos hg
    exact ⟨rfl, by rw [lv_xDst]; decide⟩

/-- The barrier may be waited for while all landings are owed. -/
theorem mayWait_bar (c : Dev nD) :
    (levAts L lv : sProp 𝕄) ⊢ MayWait (c : Thread nD τ) (.reg barS) () (owesLeg .yDst c 0 + owesLeg .xDst c 0) :=
  mayWait_of c _ _ 1 (le_of_eq (lv_bar c ())) fun g u hg => by
    rw [Pi.add_apply, Finsupp.add_apply] at hg
    rcases Nat.add_pos_iff_pos_or_pos.mp hg with h | h
    · obtain ⟨k, rfl⟩ := owesLeg_pos h
      exact ⟨rfl, by rw [lv_yDst]; decide⟩
    · obtain ⟨k, rfl⟩ := owesLeg_pos h
      exact ⟨rfl, by rw [lv_xDst]; decide⟩

/-- What is owed from the start is on cells above the lowest level. -/
theorem O₀_pos {c : Dev nD} {g : GSem nD τ sig} {u : Unit} (h : 0 < O₀ c g u) : u ∈ L g ∧ 0 < lv g u := by
  unfold O₀ at h
  have hL : ∀ (d : Dev nD) (sm : SemLoc sig), u ∈ L ((d : Thread nD τ), sm) := fun d sm => by
    rw [L_tc]; exact Finset.mem_singleton_self _
  simp only [Pi.add_apply, Finsupp.add_apply] at h
  have bar : ∀ d : Dev nD, 0 < tallyAt (barCell d) () 1 g u → u ∈ L g ∧ 0 < lv g u := fun d hd => by
    rw [tallyAt_apply] at hd
    split at hd
    · next hg => rw [hg.1]; exact ⟨hL _ _, by rw [lv_bar]; decide⟩
    · exact absurd hd (Nat.lt_irrefl 0)
  rcases Nat.add_pos_iff_pos_or_pos.mp h with h | h
  · rcases Nat.add_pos_iff_pos_or_pos.mp h with h | h
    · rcases Nat.add_pos_iff_pos_or_pos.mp h with h | h
      · obtain ⟨k, rfl⟩ := owesLeg_pos h
        exact ⟨hL _ _, by rw [lv_yDst]; decide⟩
      · obtain ⟨k, rfl⟩ := owesLeg_pos h
        exact ⟨hL _ _, by rw [lv_xDst]; decide⟩
    · exact bar _ h
  · exact bar _ h

/-! ## The ghost state of a device -/

/-- What every device knows: every cell's invariant, at the names `κ`, and that every barrier is open. -/
def known (κ : GSem nD τ sig → ℕ) : sProp 𝕄 :=
  iprop((bigSep Finset.univ fun c : Dev nD => iprop(cellInv ER (sched P) (κ (barCell c)) (barCell c) ∗ reached ER (barCell c) 0))
    ∗ bigSep Finset.univ fun c : Dev nD => bigSep Finset.univ fun q : Leg × Fin 8 =>
        cellInv ER (sched P) (κ (legCell c q)) (legCell c q))

instance known_persistent (κ : GSem nD τ sig → ℕ) : BI.Persistent (known P κ) := by unfold known; infer_instance

theorem known_bar (κ : GSem nD τ sig → ℕ) (c : Dev nD) :
    known P κ ⊢ iprop(cellInv ER (sched P) (κ (barCell c)) (barCell c) ∗ reached ER (barCell c) 0) := by
  unfold known
  exact (BI.sep_and.trans BI.and_elimL).trans (bigSep_elim (Finset.mem_univ c))
theorem known_leg (κ : GSem nD τ sig → ℕ) (c : Dev nD) (q : Leg × Fin 8) :
    known P κ ⊢ cellInv ER (sched P) (κ (legCell c q)) (legCell c q) := by
  unfold known
  exact (BI.sep_and.trans BI.and_elimR).trans ((bigSep_elim (Finset.mem_univ c)).trans (bigSep_elim (Finset.mem_univ q)))

/-- What a device pays with: a token for each neighbour's barrier, and one for each copy cell it pays. -/
def tokens (c : Dev nD) : sProp 𝕄 :=
  iprop(dutyTok ER (barCell (nbr true c)) 0 true ∗ dutyTok ER (barCell (nbr false c)) 0 false
    ∗ bigSep Finset.univ fun q : Leg × Fin 8 => dutyTok ER (legCell (peer q.1 c) q) 0 true)

/-- What a device waits with: the credit of its barrier and of its landing cells. -/
def credits (c : Dev nD) : sProp 𝕄 :=
  iprop(cred (tallyAt (barCell c) () 2)
    ∗ (bigSep Finset.univ fun k : Fin 8 => cred (tallyAt (legCell c (.yDst, k)) () N))
    ∗ bigSep Finset.univ fun k : Fin 8 => cred (tallyAt (legCell c (.xDst, k)) () N))

/-- What a device holds from launch until the exchange: the copy cells not yet open. -/
def ghost (c : Dev nD) : sProp 𝕄 :=
  iprop((∃ κ, known P κ ∗ atPos ER (barCell c) 0 ∅ 0
      ∗ (bigSep Finset.univ fun q : Leg × Fin 8 => openTok ER (legCell c q)) ∗ tokens c)
    ∗ credits c)

/-- What it holds once its copy cells are open. -/
def opened (c : Dev nD) : sProp 𝕄 :=
  iprop((∃ κ, known P κ ∗ atPos ER (barCell c) 0 ∅ 0
      ∗ (bigSep Finset.univ fun q : Leg × Fin 8 => iprop(atPos ER (legCell c q) 0 ∅ 0 ∗ reached ER (legCell c q) 0)) ∗ tokens c)
    ∗ credits c)

/-- Opening all copy cells of a device, their counters at zero. -/
theorem open_legs (c : Dev nD) :
    iprop(ghost P c ∗ bigSep Finset.univ fun q : Leg × Fin 8 => semVal (legCell c q) 0) ⊢ (|={Set.univ}=> opened P c : sProp 𝕄) := by
  unfold ghost opened
  iintro ⟨⟨⟨%κ, #Hk, Hb, Ho, Ht⟩, Hc⟩, Hv⟩
  imod (cells_open ER (sched P) Finset.univ (legCell c) (fun q => κ (legCell c q)) (fun _ _ => Set.mem_univ _)) $$ [Ho Hv] with Hat
  · isplitl [Ho]
    · iapply (bigSep_with_persistent (R := known P κ) (fun q _ => by
        iintro ⟨#Hk, Ho⟩
        isplitr
        · iapply (known_leg P κ c q) $$ Hk
        iexact Ho))
      isplitr; · iexact Hk
      iexact Ho
    · iexact Hv
  imodintro
  isplitr [Hc]
  · iexists κ
    isplitr; · iexact Hk
    isplitl [Hb]; · iexact Hb
    isplitl [Hat] <;> iassumption
  iexact Hc

/-- Closing all cells of a device once every round is over: every counter back at zero. -/
theorem close_all (κ : GSem nD τ sig → ℕ) (c : Dev nD) :
    iprop(known P κ ∗ atPos ER (barCell c) (0 + 1) ∅ 0 ∗ bigSep Finset.univ fun q : Leg × Fin 8 => atPos ER (legCell c q) (0 + 1) ∅ 0)
      ⊢ (|={Set.univ}=> iprop(semVal (barCell c) 0 ∗ bigSep Finset.univ fun q : Leg × Fin 8 => semVal (legCell c q) 0) : sProp 𝕄) := by
  iintro ⟨#Hk, Hb, Hl⟩
  imod (cell_close ER (sched P) (Set.mem_univ (κ (barCell c))) id (duties_later P (barCell c))) $$ [Hb] with Hb0
  · isplitr
    · ihave H := (known_bar P κ c) $$ Hk
      icases H with ⟨H, -⟩
      iexact H
    iexact Hb
  imod (cells_close ER (sched P) Finset.univ (legCell c) (fun q => κ (legCell c q)) (fun _ _ => Set.mem_univ _) (fun _ _ => id)
    (fun _ => 0 + 1) (fun q _ => duties_later P (legCell c q))) $$ [Hl] with Hl0
  · iapply (bigSep_with_persistent (R := known P κ) (fun q _ => by
      iintro ⟨#Hk, Ho⟩
      isplitr
      · iapply (known_leg P κ c q) $$ Hk
      iexact Ho))
    isplitr; · iexact Hk
    iexact Hl
  imodintro
  isplitl [Hb0] <;> iassumption

end Cert.KernelIdeal.Scatter

end
-- ==== Proof.Steps.lean ====
/-
  The rules for the pieces of the reduce-scatter body: a loop over the chunks, and the sum of two chunks.
-/
module

public import proofs.«01_k».proof.Proof.Protocol
public import Idealize.ShloMosaic.Lib.Pipeline.BigSepL

@[expose] public section

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What must hold before a program of device `c` runs, for `Kt` to hold after it. -/
abbrev runs (c : Dev nD) (p : Act F) (Kt : PUnit → sProp 𝕄) : sProp 𝕄 :=
  wp frame (wpE (defs₀ (F := F)) 𝒱₀ (c : Thread nD τ) none) Set.univ p Kt

/-! ## A loop over the chunks -/

/-- The step for `k`, then for each of `ks`. -/
def eachFrom (f : Fin 8 → Act F) : Fin 8 → List (Fin 8) → Act F
  | k, [] => f k
  | k, k' :: ks => f k >>= fun _ => eachFrom f k' ks

theorem eachChunk_eq (f : Fin 8 → Act F) : eachChunk f = eachFrom f 0 [1, 2, 3, 4, 5, 6, 7] := rfl

/-- The rule for a loop over consecutive chunks: `R n` is carried from step to step, each step turns its chunk's `Pre`
    into its `Post`. -/
theorem runs_eachFrom (c : Dev nD) (f : Fin 8 → Act F) (H : sProp 𝕄) [BI.Persistent H] (R : ℕ → sProp 𝕄)
    (Pre Post : Fin 8 → sProp 𝕄)
    (h : ∀ (k : Fin 8) (Kt : PUnit → sProp 𝕄),
      iprop(H ∗ R k.val ∗ Pre k ∗ (iprop(R (k.val + 1) ∗ Post k) -∗ Kt ⟨⟩)) ⊢ runs c (f k) Kt) :
    ∀ (ks : List (Fin 8)) (k : Fin 8) (_ : ∀ (i : ℕ) (hi : i < ks.length), (ks[i]).val = k.val + 1 + i) (Kt : PUnit → sProp 𝕄),
      iprop(H ∗ R k.val ∗ bigSepL (k :: ks) Pre ∗ (iprop(R (k.val + 1 + ks.length) ∗ bigSepL (k :: ks) Post) -∗ Kt ⟨⟩))
        ⊢ runs c (eachFrom f k ks) Kt
  | [], k, _, Kt => h k Kt
  | k' :: ks, k, hks, Kt => by
    have e : k'.val = k.val + 1 := hks 0 (Nat.succ_pos _)
    have ih := runs_eachFrom c f H R Pre Post h ks k' (fun i hi => by
      have := hks (i + 1) (Nat.succ_lt_succ hi)
      rw [List.getElem_cons_succ] at this
      omega)
    rw [e] at ih
    rw [bigSepL_cons' k (k' :: ks) Pre, bigSepL_cons' k (k' :: ks) Post]
    unfold eachFrom runs
    rw [wp_bind]
    iintro ⟨#HH, HR, ⟨Hp, Hps⟩, Hk⟩
    iapply (h k _)
    isplitr; · iexact HH
    isplitl [HR]; · iexact HR
    isplitl [Hp]; · iexact Hp
    iintro ⟨HR, Hq⟩
    iapply (ih Kt)
    isplitr; · iexact HH
    isplitl [HR]; · iexact HR
    isplitl [Hps]; · iexact Hps
    iintro ⟨HR, Hqs⟩
    iapply Hk
    rw [show k.val + 1 + (k' :: ks).length = k.val + 1 + 1 + ks.length by rw [List.length_cons]; omega]
    isplitl [HR]; · iexact HR
    isplitl [Hq] <;> iassumption

/-- The rule for the loop over all chunks. -/
theorem runs_eachChunk (c : Dev nD) (f : Fin 8 → Act F) (H : sProp 𝕄) [BI.Persistent H] (R : ℕ → sProp 𝕄)
    (Pre Post : Fin 8 → sProp 𝕄)
    (h : ∀ (k : Fin 8) (Kt : PUnit → sProp 𝕄),
      iprop(H ∗ R k.val ∗ Pre k ∗ (iprop(R (k.val + 1) ∗ Post k) -∗ Kt ⟨⟩)) ⊢ runs c (f k) Kt)
    (Kt : PUnit → sProp 𝕄) :
    iprop(H ∗ R 0 ∗ bigSep Finset.univ Pre ∗ (iprop(R 8 ∗ bigSep Finset.univ Post) -∗ Kt ⟨⟩)) ⊢ runs c (eachChunk f) Kt := by
  rw [bigSep_univ_eq_bigSepL [0, 1, 2, 3, 4, 5, 6, 7] (by decide) (by decide) Pre,
    bigSep_univ_eq_bigSepL [0, 1, 2, 3, 4, 5, 6, 7] (by decide) (by decide) Post, eachChunk_eq]
  exact runs_eachFrom c f H R Pre Post h [1, 2, 3, 4, 5, 6, 7] 0 (by decide) Kt

/-! ## The sum of two chunks -/

/-- The scratch chunks at any contents, and the three local copies' counters at zero. -/
def idle (c : Dev nD) : sProp 𝕄 :=
  iprop((∃ f : Vec F S2048x512 .bf16, leftM.view.loc (c : Thread nD τ) ↦{fullShare} f)
    ∗ (∃ f : Vec F S2048x512 .bf16, rightM.view.loc (c : Thread nD τ) ↦{fullShare} f)
    ∗ (∃ f : Vec F S2048x512 .f32, sumM.view.loc (c : Thread nD τ) ↦{fullShare} f)
    ∗ semVal ((c : Thread nD τ), .dma cc1_scratch7.sem) 0
    ∗ semVal ((c : Thread nD τ), .dma cc1_scratch8.sem) 0
    ∗ semVal ((c : Thread nD τ), .dma cc1_scratch9.sem) 0)

/-- What a device still owes, whatever it has waited for. -/
def owing (c : Dev nD) (O : CellTallies nD τ sig Unit) : sProp 𝕄 := iprop(∃ W, owes (c : Thread nD τ) O W)

/-- Writing a whole scratch chunk leaves what was written. -/
theorem whole_write {e : EltTy} (b : Ref sig .tc) (f w : b.ty.Contents (Elt F)) :
    (View.whole b).write (Elt F) f w Finset.univ = w := View.write_whole_univ _ _ _

theorem chunkAll_emb (j : S2048x512.Idx) : chunkAll.emb j = j := by
  funext a
  refine Fin.ext ?_
  rw [Rect.emb_apply]
  match a with
  | ⟨0, _⟩ | ⟨1, _⟩ => show 0 + 1 * _ = _; omega

/-- Reading all of a scratch chunk gives its contents. -/
theorem read_left (f : Vec F S2048x512 .bf16) : (leftM.access chunkAll).read (Elt F) f = f :=
  funext fun j => congrArg f (chunkAll_emb j)
theorem read_right (f : Vec F S2048x512 .bf16) : (rightM.access chunkAll).read (Elt F) f = f :=
  funext fun j => congrArg f (chunkAll_emb j)
/-- Storing all of a scratch chunk leaves what was stored. -/
theorem write_sum (f w : Vec F S2048x512 .f32) : (sumM.access chunkAll).write (Elt F) f w Finset.univ = w := by
  funext j
  have h : (sumM.access chunkAll).emb j = j := chunkAll_emb j
  have e := View.write_emb_of_mem (Val := Elt F) (v := sumM.access chunkAll) f w (Finset.mem_univ j)
  rw [h] at e
  exact e

/-- Part `m` of a buffer of `c`, at `f`. -/
abbrev held (c : Dev nD) {s : Shape} {e : EltTy} (m : Memref sig .tc .hbm s e) (q : PosShare TreeShare)
    (f : Buf (Elt F) (m.view.loc (c : Thread nD τ))) : sProp 𝕄 :=
  m.view.loc (c : Thread nD τ) ↦[m.view.set]{q} f

set_option maxHeartbeats 1600000 in
/-- The sum of two chunks: both are read through the scratch, and the sum is written. -/
theorem runs_addChunk (c : Dev nD) (p : Memref sig .tc .hbm S2048x512 .bf16) (hp : p.view.WordExact)
    (r : Memref sig .tc .hbm S2048x512 .bf16) (hr : r.view.WordExact) (o : Memref sig .tc .hbm S2048x512 .f32)
    (q₁ q₂ : PosShare TreeShare) (fp : Buf (Elt F) (p.view.loc (c : Thread nD τ))) (fr : Buf (Elt F) (r.view.loc (c : Thread nD τ)))
    (O : CellTallies nD τ sig Unit)
    (hO : ∀ i : Fin 3, (levAts L lv : sProp 𝕄) ⊢ MayWait (c : Thread nD τ)
      (.dma ((![cc1_scratch7.sem, cc1_scratch8.sem, cc1_scratch9.sem] : Fin 3 → DmaSem sig) i)) () O)
    (Kt : PUnit → sProp 𝕄) :
    iprop(levAts L lv ∗ idle c ∗ owing c O ∗ held c p q₁ fp ∗ held c r q₂ fr ∗ (∃ fo, held c o fullShare fo)
        ∗ (iprop(idle c ∗ owing c O ∗ held c p q₁ fp ∗ held c r q₂ fr
            ∗ (∃ fo, held c o fullShare (o.view.write (Elt F) fo (added (p.view.read (Elt F) fp) (r.view.read (Elt F) fr)) Finset.univ)))
          -∗ Kt ⟨⟩))
      ⊢ runs c (addChunk p hp r hr o) Kt := by
  unfold addChunk runs idle owing held
  iintro ⟨#Hlev, ⟨⟨%fl, Hl⟩, ⟨%fr', Hr'⟩, ⟨%fs, Hs⟩, H7, H8, H9⟩, ⟨%W, HO⟩, Hp, Hr, ⟨%fo, Ho⟩, Hk⟩
  iapply (Transfers.wp_dmaLocal (countersEmb (U := UU)) 𝒱₀ (c : Thread nD τ) none (src := p) (dst := leftM) (sm := .dma cc1_scratch7.sem) (Sd := Finset.univ)
    () (leftM.view.amount (.dma cc1_scratch7.sem)) rfl (View.dmaCredit_pos _ (by decide)) (Finset.subset_univ _)) $$ [Hp Hl H7]
  · isplitl [Hp]; · iexact Hp
    isplitl [Hl]; · iexact Hl
    iexact H7
  iintro Hf7
  iapply (Transfers.wp_dmaLocal (countersEmb (U := UU)) 𝒱₀ (c : Thread nD τ) none (src := r) (dst := rightM) (sm := .dma cc1_scratch8.sem) (Sd := Finset.univ)
    () (rightM.view.amount (.dma cc1_scratch8.sem)) rfl (View.dmaCredit_pos _ (by decide)) (Finset.subset_univ _)) $$ [Hr Hr' H8]
  · isplitl [Hr]; · iexact Hr
    isplitl [Hr']; · iexact Hr'
    iexact H8
  iintro Hf8
  iapply (Transfers.wp_waitLocalO (countersEmb (U := UU)) 𝒱₀ (c : Thread nD τ) none (sem := cc1_scratch7.sem) (srcw := p) (dstw := leftM) () rfl) $$ [Hf7 HO]
  · isplitl [Hf7]; · iexact Hf7
    isplitl [HO]; · iexact HO
    iapply (hO 0); iexact Hlev
  iintro ⟨⟨Hl, Hp⟩, H7, HO⟩
  iapply (Transfers.wp_waitLocalO (countersEmb (U := UU)) 𝒱₀ (c : Thread nD τ) none (sem := cc1_scratch8.sem) (srcw := r) (dstw := rightM) () rfl) $$ [Hf8 HO]
  · isplitl [Hf8]; · iexact Hf8
    isplitl [HO]; · iexact HO
    iapply (hO 1); iexact Hlev
  iintro ⟨⟨Hr', Hr⟩, H8, HO⟩
  iapply (wp_load_rect 𝒱₀ (c : Thread nD τ) none Set.univ (m := leftM) (r := chunkAll) (S := Finset.univ) (q := fullShare) (Finset.subset_univ _)) $$ [Hl]
  · iexact Hl
  iintro Hl
  iapply (wp_load_rect 𝒱₀ (c : Thread nD τ) none Set.univ (m := rightM) (r := chunkAll) (S := Finset.univ) (q := fullShare) (Finset.subset_univ _)) $$ [Hr']
  · iexact Hr'
  iintro Hr'
  iapply (wp_load_rect 𝒱₀ (c : Thread nD τ) none Set.univ (m := sumM) (r := chunkAll) (S := Finset.univ) (q := fullShare) (Finset.subset_univ _)) $$ [Hs]
  · iexact Hs
  iintro Hs
  iapply (wp_store 𝒱₀ (c : Thread nD τ) none Set.univ (m := sumM) (r := chunkAll) (S := Finset.univ) (Finset.subset_univ _)) $$ [Hs]
  · iexact Hs
  iintro Hs
  iapply (Transfers.wp_dmaLocal (countersEmb (U := UU)) 𝒱₀ (c : Thread nD τ) none (src := sumM) (dst := o) (sm := .dma cc1_scratch9.sem) (Sd := o.view.set)
    () (o.view.amount (.dma cc1_scratch9.sem)) rfl (View.dmaCredit_pos _ (by decide)) (Finset.Subset.refl _)) $$ [Hs Ho H9]
  · isplitl [Hs]; · rw [View.set_whole]; iexact Hs
    isplitl [Ho]; · iexact Ho
    iexact H9
  iintro Hf9
  iapply (Transfers.wp_waitLocalO (countersEmb (U := UU)) 𝒱₀ (c : Thread nD τ) none (sem := cc1_scratch9.sem) (srcw := sumM) (dstw := o) () rfl) $$ [Hf9 HO]
  · isplitl [Hf9]; · iexact Hf9
    isplitl [HO]; · iexact HO
    iapply (hO 2); iexact Hlev
  iintro ⟨⟨Ho, Hs⟩, H9, HO⟩
  rw [wp_ret]
  imodintro
  iapply Hk
  isplitl [Hl Hr' Hs H7 H8 H9]
  · isplitl [Hl]; · iexists _; iexact Hl
    isplitl [Hr']; · iexists _; iexact Hr'
    isplitl [Hs]; · iexists _; rw [View.set_whole]; iexact Hs
    isplitl [H7]; · iexact H7
    isplitl [H8] <;> iassumption
  isplitl [HO]; · iexists _; iexact HO
  isplitl [Hp]; · iexact Hp
  isplitl [Hr]; · iexact Hr
  iexists fo
  have el : ∀ w : Vec F S2048x512 .bf16, leftM.view.write (Elt F) fl w Finset.univ = w := fun w => View.write_whole_univ _ _ _
  have er : ∀ w : Vec F S2048x512 .bf16, rightM.view.write (Elt F) fr' w Finset.univ = w := fun w => View.write_whole_univ _ _ _
  have es : ∀ w : Vec F S2048x512 .f32, sumM.view.read (Elt F) w = w := fun w => View.read_whole _ _
  rw [write_sum, read_left, read_right, el, er, es]
  iexact Ho

end Cert.KernelIdeal.Scatter

end
-- ==== Proof.Copies.lean ====
/-
  The waits, the copies and the handshake of the reduce-scatter body, as rules over the protocol.
-/
module

public import proofs.«01_k».proof.Proof.Steps

@[expose] public section

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → Vec F S4096x8192 .bf16) (κ : GSem nD τ sig → ℕ)

/-! ## Chunks as parts of buffers -/

section Parts
variable (d c : Dev nD) (k : Fin 8) (q : PosShare TreeShare)

theorem recv_mine (f : Vec F S2048x8192 .bf16) : (recvPts d (recvPiece c (true, k)) q f : sProp 𝕄) = held d (mineRecv c k) q f := rfl
theorem recv_other (f : Vec F S2048x8192 .bf16) : (recvPts d (recvPiece c (false, k)) q f : sProp 𝕄) = held d (otherRecv c k) q f := rfl
theorem part_send (f : Vec F S4096x8192 .bf16) : (partPts d (partPiece c (none, k)) q f : sProp 𝕄) = held d (sendPart c k) q f := rfl
theorem part_mine (f : Vec F S4096x8192 .bf16) : (partPts d (partPiece c (some true, k)) q f : sProp 𝕄) = held d (minePart c k) q f := rfl
theorem part_other (f : Vec F S4096x8192 .bf16) : (partPts d (partPiece c (some false, k)) q f : sProp 𝕄) = held d (otherPart c k) q f := rfl
theorem out_mine (f : Vec F S2048x8192 .f32) : (outPts d (recvPiece c (true, k)) q f : sProp 𝕄) = held d (mineOut c k) q f := rfl
theorem out_other (f : Vec F S2048x8192 .f32) : (outPts d (recvPiece c (false, k)) q f : sProp 𝕄) = held d (otherOut c k) q f := rfl

end Parts

/-- What the `y` copy leaves on the neighbour is what its landing cell is paid. -/
theorem landed_y (c : Dev nD) (k : Fin 8) (f : Vec F S2048x8192 .bf16) :
    held (yp c) (mineRecv c k) fullShare ((mineRecv c k).view.write (Elt F) f ((sendPart c k).view.read (Elt F) (P c)) Finset.univ)
      ⊢ ((sched P).payload (legCell (yp c) (.yDst, k)) 0 true : sProp 𝕄) := by
  rw [payload_leg]
  show _ ⊢ recvPts (yp c) (recvPiece (yp c) (true, k)) fullShare (recvF P (yp c))
  rw [recvPiece_yp, land_y]
  exact Entails.of_eq (pointsTo_congr (write_eq_on (mineRecv c k).view _ _ _ rfl))

/-- What the `x` copy leaves on the neighbour is what its landing cell is paid. -/
theorem landed_x (c : Dev nD) (k : Fin 8) (f : Vec F S2048x8192 .bf16) :
    held (xn c) (mineRecv c k) fullShare ((mineRecv c k).view.write (Elt F) f ((mineRecv c k).view.read (Elt F) (recvF P c)) Finset.univ)
      ⊢ ((sched P).payload (legCell (xn c) (.xDst, k)) 0 true : sProp 𝕄) := by
  rw [payload_leg]
  show _ ⊢ recvPts (xn c) (recvPiece (xn c) (false, k)) fullShare (recvF P (xn c))
  rw [recvPiece_xn, land_x]
  exact Entails.of_eq (pointsTo_congr (write_eq_on (mineRecv c k).view _ _ _ rfl))

/-! ## A wait on a copy cell -/

/-- Every chunk's copy adds the same units. -/
theorem credit_eq (m : Memref sig .tc .hbm S2048x512 .bf16) : m.view.dmaCredit = N := rfl

/-- Waiting for a chunk's units on a copy cell: its payment is handed over and its round is over. -/
theorem wait_leg (c : Dev nD) (q : Leg × Fin 8) (sm : DmaSem sig) (hsm : sm = legSem q)
    (src : Memref sig .tc .hbm S2048x512 .bf16) (hs : src.view.WordExact)
    (dst : Memref sig .tc .hbm S2048x512 .bf16) (hd : dst.view.WordExact)
    (R : sProp 𝕄) (hR : legPay P c q = R)
    (O : CellTallies nD τ sig Unit) (hO : (levAts L lv : sProp 𝕄) ⊢ MayWait (c : Thread nD τ) (.dma (legSem q)) () O)
    (p : PUnit → Act F) (Kt : PUnit → sProp 𝕄) :
    iprop(known P κ ∗ levAts L lv ∗ cred (tallyAt (legCell c q) () N) ∗ owing c O ∗ atPos ER (legCell c q) 0 ∅ 0
        ∗ (iprop(owing c O ∗ atPos ER (legCell c q) (0 + 1) ∅ 0 ∗ R) -∗ runs c (p ⟨⟩) Kt))
      ⊢ runs c (Prog.lift (.waitDma2 sm src dst hs hd) >>= p) Kt := by
  subst hsm hR
  have hN := credit_eq dst
  unfold owing runs
  iintro ⟨#Hk, #Hlev, Hc, ⟨%W, HO⟩, Hat, Hnext⟩
  iapply (Rounds.wp_wait_rest_token 𝒱₀ ER (sched P) (c : Thread nD τ) none (κ := κ (legCell c q))
      (wpE_waitDma2_eq (src := src) (dst := dst) 𝒱₀ (c : Thread nD τ) none Set.univ) (Set.mem_univ _) () (O := O) (W := W) (R := 0) (m := 0) (T := ∅)
      ((Nat.zero_add _).trans (hN.trans (expect_leg P c q).symm))) $$ [Hc HO Hat]
  · isplitr; · iapply (known_leg P κ c q) $$ Hk
    isplitl [Hc]; · rw [hN]; iexact Hc
    isplitl [HO]; · iexact HO
    isplitr; · iapply hO; iexact Hlev
    iexact Hat
  iintro ⟨HO, Hat, -, Hpay⟩
  have e := rest_leg P c q
  unfold legCell at e
  ihave Hp := (Entails.of_eq e) $$ Hpay
  iapply Hnext
  isplitl [HO]; · iexists _; iexact HO
  isplitl [Hat]; · iexact Hat
  iexact Hp

/-! ## The copies -/

/-- The `y` copy of a chunk. -/
theorem runs_sendStep (c : Dev nD) (k : Fin 8) (O : CellTallies nD τ sig Unit) (Kt : PUnit → sProp 𝕄) :
    iprop(known P κ ∗ owing c (O + tallyAt (legCell (yp c) (.yDst, k)) () N)
        ∗ partPts c (partPiece c (none, k)) fullShare (P c)
        ∗ (∃ f, recvPts (yp c) (recvPiece c (true, k)) fullShare f)
        ∗ dutyTok ER (legCell c (.ySrc, k)) 0 true ∗ reached ER (legCell c (.ySrc, k)) 0
        ∗ dutyTok ER (legCell (yp c) (.yDst, k)) 0 true ∗ reached ER (legCell (yp c) (.yDst, k)) 0
        ∗ (iprop(owing c O ∗ cred (tallyAt (legCell c (.ySrc, k)) () N)) -∗ Kt ⟨⟩))
      ⊢ runs c (sendStep c k) Kt := by
  rw [part_send, funext (recv_mine (yp c) c k fullShare)]
  unfold owing runs sendStep
  iintro ⟨#Hk, ⟨%W, HO⟩, Hp, ⟨%f, Hr⟩, Ht, Hre, Ht', Hre', Hnext⟩
  iapply (Rounds.wp_send_pointsTo 𝒱₀ ER (sched P) (c : Thread nD τ) none (c' := (yp c : Thread nD τ)) (src := sendPart c k) (dst := mineRecv c k)
      (sS := .dma (ySend k)) (sem := .dma (yRecv k)) (q := fullShare) (fs := P c) (κ₁ := κ (legCell c (.ySrc, k))) (κ₂ := κ (legCell (yp c) (.yDst, k)))
      (r₁ := 0) (r₂ := 0) (d₁ := true) (d₂ := true) (fd := f)
      (by rw [show (((c : Thread nD τ), SemLoc.dma (ySend k)) : GSem nD τ sig) = legCell c (.ySrc, k) from rfl, duties_leg]; exact Finset.mem_singleton_self _)
      (by rw [show (((yp c : Thread nD τ), SemLoc.dma (yRecv k)) : GSem nD τ sig) = legCell (yp c) (.yDst, k) from rfl, duties_leg]; exact Finset.mem_singleton_self _)
      () () N rfl (amount_leg P c (.ySrc, k) true) (amount_leg P (yp c) (.yDst, k) true) O rfl (W := W)
      (Entails.of_eq (payload_leg P c (.ySrc, k) true).symm)
      (landed_y P c k f)) $$ [HO Hp Hr Ht Hre Ht' Hre']
  · isplitr; · iapply (known_leg P κ c (.ySrc, k)) $$ Hk
    isplitr; · iapply (known_leg P κ (yp c) (.yDst, k)) $$ Hk
    isplitl [Hp]; · iexact Hp
    isplitl [Hr]; · iexact Hr
    isplitl [HO]; · iexact HO
    isplitl [Ht]; · iexact Ht
    isplitl [Hre]; · iexact Hre
    isplitl [Ht']; · iexact Ht'
    iexact Hre'
  iintro ⟨Hc, HO⟩
  rw [wp_ret]
  imodintro
  iapply Hnext
  isplitl [HO]; · iexists _; iexact HO
  iexact Hc

/-- The `x` copy of a chunk, from half of the landed chunk. -/
theorem copy_x (c : Dev nD) (k : Fin 8) (O : CellTallies nD τ sig Unit) (p : PUnit → Act F) (Kt : PUnit → sProp 𝕄) :
    iprop(known P κ ∗ owing c (O + tallyAt (legCell (xn c) (.xDst, k)) () N)
        ∗ recvPts c (recvPiece c (true, k)) fullShare.right (recvF P c)
        ∗ (∃ f, recvPts (xn c) (recvPiece c (true, k)) fullShare f)
        ∗ dutyTok ER (legCell c (.xSrc, k)) 0 true ∗ reached ER (legCell c (.xSrc, k)) 0
        ∗ dutyTok ER (legCell (xn c) (.xDst, k)) 0 true ∗ reached ER (legCell (xn c) (.xDst, k)) 0
        ∗ (iprop(owing c O ∗ cred (tallyAt (legCell c (.xSrc, k)) () N)) -∗ runs c (p ⟨⟩) Kt))
      ⊢ runs c (Prog.lift (.enqueueDma (mineRecv c k) (.remote (Dev.tc (xn c)) (mineRecv c k) (.dma (xSend k))) (.dma (xRecv k))
          (mineRecv_words c k) (mineRecv_words c k) ⟨⟨rfl, Or.inl rfl⟩, trivial⟩) >>= p) Kt := by
  rw [recv_mine, funext (recv_mine (xn c) c k fullShare)]
  unfold owing runs
  iintro ⟨#Hk, ⟨%W, HO⟩, Hp, ⟨%f, Hr⟩, Ht, Hre, Ht', Hre', Hnext⟩
  iapply (Rounds.wp_send_pointsTo 𝒱₀ ER (sched P) (c : Thread nD τ) none (c' := (xn c : Thread nD τ)) (src := mineRecv c k) (dst := mineRecv c k)
      (sS := .dma (xSend k)) (sem := .dma (xRecv k)) (q := fullShare.right) (fs := recvF P c) (κ₁ := κ (legCell c (.xSrc, k))) (κ₂ := κ (legCell (xn c) (.xDst, k)))
      (r₁ := 0) (r₂ := 0) (d₁ := true) (d₂ := true) (fd := f)
      (by rw [show (((c : Thread nD τ), SemLoc.dma (xSend k)) : GSem nD τ sig) = legCell c (.xSrc, k) from rfl, duties_leg]; exact Finset.mem_singleton_self _)
      (by rw [show (((xn c : Thread nD τ), SemLoc.dma (xRecv k)) : GSem nD τ sig) = legCell (xn c) (.xDst, k) from rfl, duties_leg]; exact Finset.mem_singleton_self _)
      () () N rfl (amount_leg P c (.xSrc, k) true) (amount_leg P (xn c) (.xDst, k) true) O rfl (W := W)
      (Entails.of_eq (payload_leg P c (.xSrc, k) true).symm)
      (landed_x P c k f)) $$ [HO Hp Hr Ht Hre Ht' Hre']
  · isplitr; · iapply (known_leg P κ c (.xSrc, k)) $$ Hk
    isplitr; · iapply (known_leg P κ (xn c) (.xDst, k)) $$ Hk
    isplitl [Hp]; · iexact Hp
    isplitl [Hr]; · iexact Hr
    isplitl [HO]; · iexact HO
    isplitl [Ht]; · iexact Ht
    isplitl [Hre]; · iexact Hre
    isplitl [Ht']; · iexact Ht'
    iexact Hre'
  iintro ⟨Hc, HO⟩
  iapply Hnext
  isplitl [HO]; · iexists _; iexact HO
  iexact Hc

/-! ## The handshake -/

/-- Both neighbours are signalled, each handed the chunks it will write here, and both signals are waited for. -/
theorem runs_handshake (c : Dev nD) (Kt : PUnit → sProp 𝕄) :
    iprop(known P κ ∗ levAts L lv ∗ owing c (O₀ c) ∗ cred (tallyAt (barCell c) () 2) ∗ atPos ER (barCell c) 0 ∅ 0
        ∗ dutyTok ER (barCell (nbr true c)) 0 true ∗ dutyTok ER (barCell (nbr false c)) 0 false
        ∗ barPay (nbr true c) true ∗ barPay (nbr false c) false
        ∗ (iprop(owing c (owesLeg .yDst c 0 + owesLeg .xDst c 0) ∗ atPos ER (barCell c) (0 + 1) ∅ 0
            ∗ barPay c true ∗ barPay c false) -∗ Kt ⟨⟩))
      ⊢ runs (F := F) c (handshake c) Kt := by
  unfold owing runs handshake
  iintro ⟨#Hk, #Hlev, ⟨%W, HO⟩, Hc, Hat, Ht, Ht', Hb, Hb', Hnext⟩
  ihave #Hy := (known_bar P κ (nbr true c)) $$ Hk
  icases Hy with ⟨#HyI, #HyR⟩
  ihave #Hx := (known_bar P κ (nbr false c)) $$ Hk
  icases Hx with ⟨#HxI, #HxR⟩
  ihave #Hm := (known_bar P κ c) $$ Hk
  icases Hm with ⟨#HmI, #HmR⟩
  iapply (Rounds.wp_signal 𝒱₀ ER (sched P) (c : Thread nD τ) none (dst := (yp c : Thread nD τ)) (sem := barS) (r := 0) (d := true) (k' := 1)
      (κ := κ (barCell (yp c))) (by rw [duties_bar]; exact Finset.mem_univ _) (amount_bar P (yp c) true) ()
      (owesLeg .yDst c 0 + owesLeg .xDst c 0 + tallyAt (barCell (nbr false c)) () 1) rfl) $$ [HO Ht Hb]
  · isplitr; · iexact HyI
    isplitl [HO]; · iexact HO
    isplitl [Ht]; · iexact Ht
    isplitl [Hb]; · rw [payload_bar]; iexact Hb
    iexact HyR
  iintro HO
  iapply (Rounds.wp_signal 𝒱₀ ER (sched P) (c : Thread nD τ) none (dst := (xn c : Thread nD τ)) (sem := barS) (r := 0) (d := false) (k' := 1)
      (κ := κ (barCell (xn c))) (by rw [duties_bar]; exact Finset.mem_univ _) (amount_bar P (xn c) false) ()
      (owesLeg .yDst c 0 + owesLeg .xDst c 0) rfl) $$ [HO Ht' Hb']
  · isplitr; · iexact HxI
    isplitl [HO]; · iexact HO
    isplitl [Ht']; · iexact Ht'
    isplitl [Hb']; · rw [payload_bar]; iexact Hb'
    iexact HxR
  iintro HO
  iapply (Rounds.wp_wait_rest_token 𝒱₀ ER (sched P) (c : Thread nD τ) none (κ := κ (barCell c)) (k' := 2)
      (wpE_semWait_eq 𝒱₀ (c : Thread nD τ) none Set.univ) (Set.mem_univ _) () (O := owesLeg .yDst c 0 + owesLeg .xDst c 0) (W := W) (R := 0) (m := 0) (T := ∅)
      ((Nat.zero_add _).trans (expect_bar P c).symm)) $$ [Hc HO Hat]
  · isplitr; · iexact HmI
    isplitl [Hc]; · iexact Hc
    isplitl [HO]; · iexact HO
    isplitr; · iapply (mayWait_bar c); iexact Hlev
    iexact Hat
  iintro ⟨HO, Hat, -, Hpay⟩
  ihave Hp := (Entails.of_eq (rest_bar P c)) $$ Hpay
  icases Hp with ⟨Hp, Hp'⟩
  rw [wp_ret]
  imodintro
  iapply Hnext
  isplitl [HO]; · iexists _; iexact HO
  isplitl [Hat]; · iexact Hat
  isplitl [Hp] <;> iassumption

end Cert.KernelIdeal.Scatter

end
-- ==== Proof.Rounds.lean ====
/-
  The four loops of the reduce-scatter body, each as one rule: what a chunk needs before its step and what it is left with.
-/
module

public import proofs.«01_k».proof.Proof.Copies

@[expose] public section

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → Vec F S4096x8192 .bf16) (κ : GSem nD τ sig → ℕ)

/-- What every step may use: the cells' invariants and the levels. -/
abbrev ground : sProp 𝕄 := iprop(known P κ ∗ levAts L lv)

/-- Owing nothing, everything may be waited for. -/
theorem mayWait_none (c : Dev nD) (sm : SemLoc sig) : (levAts L lv : sProp 𝕄) ⊢ MayWait (c : Thread nD τ) sm () 0 := by
  rw [MayWait_zero]
  iintro -
  iempintro

/-- The local copies' semaphores are at the lowest level. -/
theorem lv_local (c : Dev nD) (i : Fin 3) :
    lv ((c : Thread nD τ), .dma ((![cc1_scratch7.sem, cc1_scratch8.sem, cc1_scratch9.sem] : Fin 3 → DmaSem sig) i)) () ≤ 2 := by
  have h : ∀ (i : Fin 3) (q : Leg × Fin 8),
      (![cc1_scratch7.sem, cc1_scratch8.sem, cc1_scratch9.sem] : Fin 3 → DmaSem sig) i ≠ legSem q := by decide +kernel
  rw [lv_other _ (fun e => by cases e) (fun q e => h i q (SemLoc.dma.inj e))]
  exact Nat.zero_le _

/-- A chunk of the landing buffer in two halves. -/
theorem recv_halves (c : Dev nD) (I : Finset S2048x8192.Idx) (f : Vec F S2048x8192 .bf16) :
    (recvPts c I fullShare f : sProp 𝕄) ⊣⊢ iprop(recvPts c I fullShare.left f ∗ recvPts c I fullShare.right f) :=
  pointsTo_share (PosShare.mem_left_op_right fullShare)

/-! ## The sums -/

/-- What the sum of an own chunk leaves is what the result is to hold there. -/
theorem summed_mine (c : Dev nD) (k : Fin 8) (f : Vec F S2048x8192 .f32) :
    (held c (mineOut c k) fullShare ((mineOut c k).view.write (Elt F) f
      (added ((minePart c k).view.read (Elt F) (P c)) ((mineRecv c k).view.read (Elt F) (recvF P c))) Finset.univ) : sProp 𝕄)
      = outPts c (recvPiece c (true, k)) fullShare (outF P c) := by
  rw [land_mine, out_mine]
  exact pointsTo_congr (write_eq_on (mineOut c k).view _ _ _ rfl)
/-- What the sum of a chunk of the other half leaves is what the result is to hold there. -/
theorem summed_other (c : Dev nD) (k : Fin 8) (f : Vec F S2048x8192 .f32) :
    (held c (otherOut c k) fullShare ((otherOut c k).view.write (Elt F) f
      (added ((otherPart c k).view.read (Elt F) (P c)) ((otherRecv c k).view.read (Elt F) (recvF P c))) Finset.univ) : sProp 𝕄)
      = outPts c (recvPiece c (false, k)) fullShare (outF P c) := by
  rw [land_other, out_other]
  exact pointsTo_congr (write_eq_on (otherOut c k).view _ _ _ rfl)

/-- The sum of an own chunk, read from half of the landed chunk. -/
theorem runs_addMine (c : Dev nD) (k : Fin 8) (O : CellTallies nD τ sig Unit)
    (hO : ∀ i : Fin 3, (levAts L lv : sProp 𝕄) ⊢ MayWait (c : Thread nD τ)
      (.dma ((![cc1_scratch7.sem, cc1_scratch8.sem, cc1_scratch9.sem] : Fin 3 → DmaSem sig) i)) () O)
    (Kt : PUnit → sProp 𝕄) :
    iprop(levAts L lv ∗ idle c ∗ owing c O ∗ partPts c (partPiece c (some true, k)) fullShare (P c)
        ∗ recvPts c (recvPiece c (true, k)) fullShare.left (recvF P c) ∗ (∃ f, outPts c (recvPiece c (true, k)) fullShare f)
        ∗ (iprop(idle c ∗ owing c O ∗ partPts c (partPiece c (some true, k)) fullShare (P c)
            ∗ recvPts c (recvPiece c (true, k)) fullShare.left (recvF P c) ∗ outPts c (recvPiece c (true, k)) fullShare (outF P c)) -∗ Kt ⟨⟩))
      ⊢ runs c (addChunk (minePart c k) (minePart_words c k) (mineRecv c k) (mineRecv_words c k) (mineOut c k)) Kt := by
  have h := runs_addChunk c (minePart c k) (minePart_words c k) (mineRecv c k) (mineRecv_words c k) (mineOut c k) fullShare fullShare.left
    (P c) (recvF P c) O hO Kt
  iintro ⟨#Hlev, Hi, HO, Hp, Hl, Ho, Hnext⟩
  iapply h
  isplitr; · iexact Hlev
  isplitl [Hi]; · iexact Hi
  isplitl [HO]; · iexact HO
  isplitl [Hp]; · iapply (Entails.of_eq (part_mine c c k _ _)); iexact Hp
  isplitl [Hl]; · iapply (Entails.of_eq (recv_mine c c k _ _)); iexact Hl
  isplitl [Ho]
  · icases Ho with ⟨%f, Ho⟩
    iexists f
    iapply (Entails.of_eq (out_mine c c k _ _)); iexact Ho
  iintro ⟨Hi, HO, Hp, Hl, ⟨%fo, Ho⟩⟩
  iapply Hnext
  isplitl [Hi]; · iexact Hi
  isplitl [HO]; · iexact HO
  isplitl [Hp]; · iapply (Entails.of_eq (part_mine c c k _ _).symm); iexact Hp
  isplitl [Hl]; · iapply (Entails.of_eq (recv_mine c c k _ _).symm); iexact Hl
  iapply (Entails.of_eq (summed_mine P c k fo)); iexact Ho

/-- The sum of a chunk of the other half. -/
theorem runs_addOther (c : Dev nD) (k : Fin 8) (O : CellTallies nD τ sig Unit)
    (hO : ∀ i : Fin 3, (levAts L lv : sProp 𝕄) ⊢ MayWait (c : Thread nD τ)
      (.dma ((![cc1_scratch7.sem, cc1_scratch8.sem, cc1_scratch9.sem] : Fin 3 → DmaSem sig) i)) () O)
    (Kt : PUnit → sProp 𝕄) :
    iprop(levAts L lv ∗ idle c ∗ owing c O ∗ partPts c (partPiece c (some false, k)) fullShare (P c)
        ∗ recvPts c (recvPiece c (false, k)) fullShare (recvF P c) ∗ (∃ f, outPts c (recvPiece c (false, k)) fullShare f)
        ∗ (iprop(idle c ∗ owing c O ∗ partPts c (partPiece c (some false, k)) fullShare (P c)
            ∗ recvPts c (recvPiece c (false, k)) fullShare (recvF P c) ∗ outPts c (recvPiece c (false, k)) fullShare (outF P c)) -∗ Kt ⟨⟩))
      ⊢ runs c (addChunk (otherPart c k) (otherPart_words c k) (otherRecv c k) (otherRecv_words c k) (otherOut c k)) Kt := by
  have h := runs_addChunk c (otherPart c k) (otherPart_words c k) (otherRecv c k) (otherRecv_words c k) (otherOut c k) fullShare fullShare
    (P c) (recvF P c) O hO Kt
  iintro ⟨#Hlev, Hi, HO, Hp, Hl, Ho, Hnext⟩
  iapply h
  isplitr; · iexact Hlev
  isplitl [Hi]; · iexact Hi
  isplitl [HO]; · iexact HO
  isplitl [Hp]; · iapply (Entails.of_eq (part_other c c k _ _)); iexact Hp
  isplitl [Hl]; · iapply (Entails.of_eq (recv_other c c k _ _)); iexact Hl
  isplitl [Ho]
  · icases Ho with ⟨%f, Ho⟩
    iexists f
    iapply (Entails.of_eq (out_other c c k _ _)); iexact Ho
  iintro ⟨Hi, HO, Hp, Hl, ⟨%fo, Ho⟩⟩
  iapply Hnext
  isplitl [Hi]; · iexact Hi
  isplitl [HO]; · iexact HO
  isplitl [Hp]; · iapply (Entails.of_eq (part_other c c k _ _).symm); iexact Hp
  isplitl [Hl]; · iapply (Entails.of_eq (recv_other c c k _ _).symm); iexact Hl
  iapply (Entails.of_eq (summed_other P c k fo)); iexact Ho

/-! ## The sends -/

/-- Before the `y` copy of chunk `k`. -/
def sendPre (c : Dev nD) (k : Fin 8) : sProp 𝕄 :=
  iprop(partPts c (partPiece c (none, k)) fullShare (P c)
    ∗ ((∃ f, recvPts (yp c) (recvPiece c (true, k)) fullShare f) ∗ reached ER (legCell (yp c) (.yDst, k)) 0)
    ∗ dutyTok ER (legCell c (.ySrc, k)) 0 true ∗ reached ER (legCell c (.ySrc, k)) 0
    ∗ dutyTok ER (legCell (yp c) (.yDst, k)) 0 true)

theorem runs_sends (c : Dev nD) (Kt : PUnit → sProp 𝕄) :
    iprop(ground P κ ∗ owing c (owesLeg .yDst c 0 + owesLeg .xDst c 0) ∗ (bigSep Finset.univ fun k => sendPre P c k)
        ∗ (iprop(owing c (owesLeg .xDst c 0) ∗ bigSep Finset.univ fun k : Fin 8 => cred (tallyAt (legCell c (.ySrc, k)) () N)) -∗ Kt ⟨⟩))
      ⊢ runs c (eachChunk (sendStep c)) Kt := by
  have h := runs_eachChunk c (sendStep c) (ground P κ) (fun n => owing c (owesLeg .yDst c n + owesLeg .xDst c 0)) (sendPre P c)
    (fun k => cred (tallyAt (legCell c (.ySrc, k)) () N)) (fun k Kt => by
      unfold sendPre
      rw [owesLeg_step, add_right_comm]
      iintro ⟨⟨#Hk, #Hlev⟩, HO, ⟨Hp, ⟨Hr, Hre'⟩, Ht, Hre, Ht'⟩, Hnext⟩
      iapply (runs_sendStep P κ c k _ Kt)
      isplitr; · iexact Hk
      isplitl [HO]; · iexact HO
      isplitl [Hp]; · iexact Hp
      isplitl [Hr]; · iexact Hr
      isplitl [Ht]; · iexact Ht
      isplitl [Hre]; · iexact Hre
      isplitl [Ht']; · iexact Ht'
      isplitl [Hre']; · iexact Hre'
      iexact Hnext) Kt
  rwa [owesLeg_end, zero_add] at h

/-! ## The chunks that are sent on -/

/-- Before chunk `k` lands from `y`. -/
def midPre (c : Dev nD) (k : Fin 8) : sProp 𝕄 :=
  iprop(cred (tallyAt (legCell c (.yDst, k)) () N) ∗ atPos ER (legCell c (.yDst, k)) 0 ∅ 0
    ∗ ((∃ f, recvPts (xn c) (recvPiece c (true, k)) fullShare f) ∗ reached ER (legCell (xn c) (.xDst, k)) 0)
    ∗ dutyTok ER (legCell c (.xSrc, k)) 0 true ∗ reached ER (legCell c (.xSrc, k)) 0
    ∗ dutyTok ER (legCell (xn c) (.xDst, k)) 0 true
    ∗ partPts c (partPiece c (some true, k)) fullShare (P c)
    ∗ ∃ f, outPts c (recvPiece c (true, k)) fullShare f)
/-- After it is sent on along `x` and added. -/
def midPost (c : Dev nD) (k : Fin 8) : sProp 𝕄 :=
  iprop(atPos ER (legCell c (.yDst, k)) (0 + 1) ∅ 0 ∗ cred (tallyAt (legCell c (.xSrc, k)) () N)
    ∗ recvPts c (recvPiece c (true, k)) fullShare.left (recvF P c)
    ∗ partPts c (partPiece c (some true, k)) fullShare (P c)
    ∗ outPts c (recvPiece c (true, k)) fullShare (outF P c))

theorem runs_midStep (c : Dev nD) (k : Fin 8) (Kt : PUnit → sProp 𝕄) :
    iprop(ground P κ ∗ (idle c ∗ owing c (owesLeg .xDst c k.val)) ∗ midPre P c k
        ∗ (iprop((idle c ∗ owing c (owesLeg .xDst c (k.val + 1))) ∗ midPost P c k) -∗ Kt ⟨⟩))
      ⊢ runs c (midStep c k) Kt := by
  have hm : (levAts L lv : sProp 𝕄) ⊢ MayWait (c : Thread nD τ) (.dma (legSem (.yDst, k))) ()
      (owesLeg .xDst c (k.val + 1) + tallyAt (legCell (peer .xDst c) (.xDst, k)) () N) := by
    rw [← owesLeg_step]
    exact mayWait_x c _ _ (le_of_eq (lv_yDst c k ()))
  unfold midPre midPost midStep
  rw [owesLeg_step]
  iintro ⟨⟨#Hk, #Hlev⟩, ⟨Hi, HO⟩, ⟨Hc, Hat, ⟨Hr, Hre'⟩, Ht, Hre, Ht', Hp, Ho⟩, Hnext⟩
  iapply (wait_leg P κ c (.yDst, k) (yRecv k) rfl (sendPart c k) (sendPart_words c k) (mineRecv c k) (mineRecv_words c k)
    (recvPts c (recvPiece c (true, k)) fullShare (recvF P c)) rfl _ hm _ Kt)
  isplitr; · iexact Hk
  isplitr; · iexact Hlev
  isplitl [Hc]; · iexact Hc
  isplitl [HO]; · iexact HO
  isplitl [Hat]; · iexact Hat
  iintro ⟨HO, Hat, Hl⟩
  ihave Hl := (recv_halves c _ _).1 $$ Hl
  icases Hl with ⟨Hll, Hlr⟩
  iapply (copy_x P κ c k (owesLeg .xDst c (k.val + 1)) _ Kt)
  isplitr; · iexact Hk
  isplitl [HO]; · iexact HO
  isplitl [Hlr]; · iexact Hlr
  isplitl [Hr]; · iexact Hr
  isplitl [Ht]; · iexact Ht
  isplitl [Hre]; · iexact Hre
  isplitl [Ht']; · iexact Ht'
  isplitl [Hre']; · iexact Hre'
  iintro ⟨HO, Hcx⟩
  iapply (runs_addMine P c k _ (fun i => mayWait_x c _ _ (lv_local c i)) Kt)
  isplitr; · iexact Hlev
  isplitl [Hi]; · iexact Hi
  isplitl [HO]; · iexact HO
  isplitl [Hp]; · iexact Hp
  isplitl [Hll]; · iexact Hll
  isplitl [Ho]; · iexact Ho
  iintro ⟨Hi, HO, Hp, Hll, Ho⟩
  iapply Hnext
  isplitl [Hi HO]; · isplitl [Hi] <;> iassumption
  isplitl [Hat]; · iexact Hat
  isplitl [Hcx]; · iexact Hcx
  isplitl [Hll]; · iexact Hll
  isplitl [Hp]; · iexact Hp
  iexact Ho

theorem runs_mids (c : Dev nD) (Kt : PUnit → sProp 𝕄) :
    iprop(ground P κ ∗ (idle c ∗ owing c (owesLeg .xDst c 0)) ∗ (bigSep Finset.univ fun k => midPre P c k)
        ∗ (iprop((idle c ∗ owing c 0) ∗ bigSep Finset.univ fun k : Fin 8 => midPost P c k) -∗ Kt ⟨⟩))
      ⊢ runs c (eachChunk (midStep c)) Kt := by
  have h := runs_eachChunk c (midStep c) (ground P κ) (fun n => iprop(idle c ∗ owing c (owesLeg .xDst c n))) (midPre P c)
    (midPost P c) (fun k Kt => runs_midStep P κ c k Kt) Kt
  rwa [owesLeg_end] at h

/-! ## The chunks of the other half -/

/-- Before chunk `k` of the other half lands from `x`. -/
def latePre (c : Dev nD) (k : Fin 8) : sProp 𝕄 :=
  iprop(cred (tallyAt (legCell c (.xDst, k)) () N) ∗ atPos ER (legCell c (.xDst, k)) 0 ∅ 0
    ∗ partPts c (partPiece c (some false, k)) fullShare (P c)
    ∗ ∃ f, outPts c (recvPiece c (false, k)) fullShare f)
/-- After it is added. -/
def latePost (c : Dev nD) (k : Fin 8) : sProp 𝕄 :=
  iprop(atPos ER (legCell c (.xDst, k)) (0 + 1) ∅ 0
    ∗ recvPts c (recvPiece c (false, k)) fullShare (recvF P c)
    ∗ partPts c (partPiece c (some false, k)) fullShare (P c)
    ∗ outPts c (recvPiece c (false, k)) fullShare (outF P c))

theorem runs_lateStep (c : Dev nD) (k : Fin 8) (Kt : PUnit → sProp 𝕄) :
    iprop(ground P κ ∗ (idle c ∗ owing c 0) ∗ latePre P c k ∗ (iprop((idle c ∗ owing c 0) ∗ latePost P c k) -∗ Kt ⟨⟩))
      ⊢ runs c (lateStep c k) Kt := by
  unfold latePre latePost lateStep
  iintro ⟨⟨#Hk, #Hlev⟩, ⟨Hi, HO⟩, ⟨Hc, Hat, Hp, Ho⟩, Hnext⟩
  iapply (wait_leg P κ c (.xDst, k) (xRecv k) rfl (otherRecv c k) (otherRecv_words c k) (otherRecv c k) (otherRecv_words c k)
    (recvPts c (recvPiece c (false, k)) fullShare (recvF P c)) rfl 0 (mayWait_none c _) _ Kt)
  isplitr; · iexact Hk
  isplitr; · iexact Hlev
  isplitl [Hc]; · iexact Hc
  isplitl [HO]; · iexact HO
  isplitl [Hat]; · iexact Hat
  iintro ⟨HO, Hat, Hl⟩
  iapply (runs_addOther P c k 0 (fun i => mayWait_none c _) Kt)
  isplitr; · iexact Hlev
  isplitl [Hi]; · iexact Hi
  isplitl [HO]; · iexact HO
  isplitl [Hp]; · iexact Hp
  isplitl [Hl]; · iexact Hl
  isplitl [Ho]; · iexact Ho
  iintro ⟨Hi, HO, Hp, Hl, Ho⟩
  iapply Hnext
  isplitl [Hi HO]; · isplitl [Hi] <;> iassumption
  isplitl [Hat]; · iexact Hat
  isplitl [Hl]; · iexact Hl
  isplitl [Hp]; · iexact Hp
  iexact Ho

theorem runs_lates (c : Dev nD) (Kt : PUnit → sProp 𝕄) :
    iprop(ground P κ ∗ (idle c ∗ owing c 0) ∗ (bigSep Finset.univ fun k => latePre P c k)
        ∗ (iprop((idle c ∗ owing c 0) ∗ bigSep Finset.univ fun k : Fin 8 => latePost P c k) -∗ Kt ⟨⟩))
      ⊢ runs c (eachChunk (lateStep c)) Kt :=
  runs_eachChunk c (lateStep c) (ground P κ) (fun _ => iprop(idle c ∗ owing c 0)) (latePre P c)
    (latePost P c) (fun k Kt => runs_lateStep P κ c k Kt) Kt

/-! ## The source sides -/

/-- Before the source sides of chunk `k` are waited for. -/
def drainPre (c : Dev nD) (k : Fin 8) : sProp 𝕄 :=
  iprop(cred (tallyAt (legCell c (.ySrc, k)) () N) ∗ atPos ER (legCell c (.ySrc, k)) 0 ∅ 0
    ∗ cred (tallyAt (legCell c (.xSrc, k)) () N) ∗ atPos ER (legCell c (.xSrc, k)) 0 ∅ 0)
/-- After. -/
def drainPost (c : Dev nD) (k : Fin 8) : sProp 𝕄 :=
  iprop(atPos ER (legCell c (.ySrc, k)) (0 + 1) ∅ 0 ∗ partPts c (partPiece c (none, k)) fullShare (P c)
    ∗ atPos ER (legCell c (.xSrc, k)) (0 + 1) ∅ 0 ∗ recvPts c (recvPiece c (true, k)) fullShare.right (recvF P c))

theorem runs_drainStep (c : Dev nD) (k : Fin 8) (Kt : PUnit → sProp 𝕄) :
    iprop(ground P κ ∗ owing c 0 ∗ drainPre c k ∗ (iprop(owing c 0 ∗ drainPost P c k) -∗ Kt ⟨⟩))
      ⊢ runs c (drainStep c k) Kt := by
  unfold drainPre drainPost drainStep
  iintro ⟨⟨#Hk, #Hlev⟩, HO, ⟨Hc, Hat, Hc', Hat'⟩, Hnext⟩
  iapply (wait_leg P κ c (.ySrc, k) (ySend k) rfl (mineRecv c k) (mineRecv_words c k) (sendPart c k) (sendPart_words c k)
    (partPts c (partPiece c (none, k)) fullShare (P c)) rfl 0 (mayWait_none c _) _ Kt)
  isplitr; · iexact Hk
  isplitr; · iexact Hlev
  isplitl [Hc]; · iexact Hc
  isplitl [HO]; · iexact HO
  isplitl [Hat]; · iexact Hat
  iintro ⟨HO, Hat, Hl⟩
  iapply (wait_leg P κ c (.xSrc, k) (xSend k) rfl (mineRecv c k) (mineRecv_words c k) (mineRecv c k) (mineRecv_words c k)
    (recvPts c (recvPiece c (true, k)) fullShare.right (recvF P c)) rfl 0 (mayWait_none c _) Prog.ret Kt)
  isplitr; · iexact Hk
  isplitr; · iexact Hlev
  isplitl [Hc']; · iexact Hc'
  isplitl [HO]; · iexact HO
  isplitl [Hat']; · iexact Hat'
  iintro ⟨HO, Hat', Hl'⟩
  unfold runs
  rw [wp_ret]
  imodintro
  iapply Hnext
  isplitl [HO]; · iexact HO
  isplitl [Hat]; · iexact Hat
  isplitl [Hl]; · iexact Hl
  isplitl [Hat'] <;> iassumption

theorem runs_drains (c : Dev nD) (Kt : PUnit → sProp 𝕄) :
    iprop(ground P κ ∗ owing c 0 ∗ (bigSep Finset.univ fun k : Fin 8 => drainPre c k)
        ∗ (iprop(owing c 0 ∗ bigSep Finset.univ fun k : Fin 8 => drainPost P c k) -∗ Kt ⟨⟩))
      ⊢ runs c (eachChunk (drainStep c)) Kt :=
  runs_eachChunk c (drainStep c) (ground P κ) (fun _ => owing c 0) (drainPre c)
    (drainPost P c) (fun k Kt => runs_drainStep P κ c k Kt) Kt

end Cert.KernelIdeal.Scatter

end
-- ==== Proof.Body.lean ====
/-
  The whole reduce-scatter body of a device, from its whole buffers to its whole buffers.
-/
module

public import proofs.«01_k».proof.Proof.Rounds

@[expose] public section

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over the legs and the pieces -/

/-- A family over all copy cells, one leg at a time. -/
theorem legs_split (Φ : Leg × Fin 8 → sProp 𝕄) :
    bigSep Finset.univ Φ = iprop((bigSep Finset.univ fun k => Φ (.ySrc, k)) ∗ (bigSep Finset.univ fun k => Φ (.yDst, k))
      ∗ (bigSep Finset.univ fun k => Φ (.xSrc, k)) ∗ bigSep Finset.univ fun k => Φ (.xDst, k)) := by
  rw [bigSep_univ_prod]
  exact bigSep_univ_eq_bigSepL [Leg.ySrc, Leg.yDst, Leg.xSrc, Leg.xDst] (by decide) (by decide) _

/-- A family over the chunks of both halves, one half at a time. -/
theorem halves_split (Φ : Bool × Fin 8 → sProp 𝕄) :
    bigSep Finset.univ Φ = iprop((bigSep Finset.univ fun k => Φ (true, k)) ∗ bigSep Finset.univ fun k => Φ (false, k)) := by
  rw [bigSep_univ_prod]
  exact bigSep_univ_eq_bigSepL [true, false] (by decide) (by decide) _

/-- The landing buffer is its sixteen chunks. -/
theorem recv_pieces (c : Dev nD) (q : PosShare TreeShare) (f : Vec F S2048x8192 .bf16) :
    (recvPts c Finset.univ q f : sProp 𝕄) = iprop((bigSep Finset.univ fun k => recvPts c (recvPiece c (true, k)) q f)
      ∗ bigSep Finset.univ fun k => recvPts c (recvPiece c (false, k)) q f) := by
  rw [← halves_split fun p => recvPts c (recvPiece c p) q f, ← recvPiece_cover c]
  exact pointsTo_biUnion _ _ fun p _ p' _ h => recvPiece_disjoint c p p' h
/-- The result is its sixteen chunks. -/
theorem out_pieces (c : Dev nD) (q : PosShare TreeShare) (f : Vec F S2048x8192 .f32) :
    (outPts c Finset.univ q f : sProp 𝕄) = iprop((bigSep Finset.univ fun k => outPts c (recvPiece c (true, k)) q f)
      ∗ bigSep Finset.univ fun k => outPts c (recvPiece c (false, k)) q f) := by
  rw [← halves_split fun p => outPts c (recvPiece c p) q f, ← recvPiece_cover c]
  exact pointsTo_biUnion _ _ fun p _ p' _ h => recvPiece_disjoint c p p' h

/-- What the body reads of the partial product. -/
def partRead (c : Dev nD) : Finset S4096x8192.Idx := Finset.univ.biUnion (partPiece c)

/-- The partial product is the chunks sent, the chunks added, and the rest. -/
theorem part_pieces (c : Dev nD) (q : PosShare TreeShare) (f : Vec F S4096x8192 .bf16) :
    (partPts c Finset.univ q f : sProp 𝕄) ⊣⊢ iprop(((bigSep Finset.univ fun k => partPts c (partPiece c (none, k)) q f)
      ∗ (bigSep Finset.univ fun k => partPts c (partPiece c (some true, k)) q f)
      ∗ bigSep Finset.univ fun k => partPts c (partPiece c (some false, k)) q f)
      ∗ partPts c (Finset.univ \ partRead c) q f) := by
  have e : (partPts c (partRead c) q f : sProp 𝕄) = iprop((bigSep Finset.univ fun k => partPts c (partPiece c (none, k)) q f)
      ∗ (bigSep Finset.univ fun k => partPts c (partPiece c (some true, k)) q f)
      ∗ bigSep Finset.univ fun k => partPts c (partPiece c (some false, k)) q f) := by
    have h := bigSep_univ_prod fun p : Option Bool × Fin 8 => (partPts c (partPiece c p) q f : sProp 𝕄)
    rw [bigSep_univ_eq_bigSepL [none, some true, some false] (by decide) (by decide)] at h
    refine Eq.trans ?_ h
    exact pointsTo_biUnion _ _ fun p _ p' _ h => partPiece_disjoint c p p' h
  rw [← e]
  exact pointsTo_split_subset (Finset.subset_univ _)

/-! ## What the signals hand over -/

theorem barPay_yp (c : Dev nD) : (barPay (nbr true c) true : sProp 𝕄)
    = bigSep Finset.univ fun k : Fin 8 =>
      iprop((∃ f, recvPts c (recvPiece c (true, k)) fullShare f) ∗ reached ER (legCell c (.yDst, k)) 0) := by
  unfold barPay
  rw [show nbr true (nbr true c) = c from yp_yp c, show nbr true c = yp c from rfl]
  simp only [recvPiece_yp]
  rfl
theorem barPay_xn (c : Dev nD) : (barPay (nbr false c) false : sProp 𝕄)
    = bigSep Finset.univ fun k : Fin 8 =>
      iprop((∃ f, recvPts c (recvPiece c (false, k)) fullShare f) ∗ reached ER (legCell c (.xDst, k)) 0) := by
  unfold barPay
  rw [show nbr false (nbr false c) = c from xn_xn c, show nbr false c = xn c from rfl]
  have e : ∀ k, recvPiece (xn c) (true, k) = recvPiece c (false, k) := fun k => by
    rw [← recvPiece_xn (xn c) k, xn_xn]
  simp only [e]
  rfl

/-! ## The loops' families -/

section Families
variable (P : Dev nD → Vec F S4096x8192 .bf16) (c : Dev nD)

theorem sendPre_all : (bigSep Finset.univ (fun k => sendPre P c k) : sProp 𝕄)
    = iprop((bigSep Finset.univ fun k => partPts c (partPiece c (none, k)) fullShare (P c))
      ∗ barPay c true
      ∗ (bigSep Finset.univ fun k => dutyTok ER (legCell c (.ySrc, k)) 0 true)
      ∗ (bigSep Finset.univ fun k => reached ER (legCell c (.ySrc, k)) 0)
      ∗ bigSep Finset.univ fun k => dutyTok ER (legCell (yp c) (.yDst, k)) 0 true) := by
  unfold sendPre barPay
  simp only [bigSep_sep']
  rfl

theorem midPre_all : (bigSep Finset.univ (fun k => midPre P c k) : sProp 𝕄)
    = iprop((bigSep Finset.univ fun k => cred (tallyAt (legCell c (.yDst, k)) () N))
      ∗ (bigSep Finset.univ fun k => atPos ER (legCell c (.yDst, k)) 0 ∅ 0)
      ∗ barPay c false
      ∗ (bigSep Finset.univ fun k => dutyTok ER (legCell c (.xSrc, k)) 0 true)
      ∗ (bigSep Finset.univ fun k => reached ER (legCell c (.xSrc, k)) 0)
      ∗ (bigSep Finset.univ fun k => dutyTok ER (legCell (xn c) (.xDst, k)) 0 true)
      ∗ (bigSep Finset.univ fun k => partPts c (partPiece c (some true, k)) fullShare (P c))
      ∗ bigSep Finset.univ fun k => iprop(∃ f, outPts c (recvPiece c (true, k)) fullShare f)) := by
  unfold midPre barPay
  simp only [bigSep_sep']
  rfl

theorem midPost_all : (bigSep Finset.univ (fun k => midPost P c k) : sProp 𝕄)
    = iprop((bigSep Finset.univ fun k => atPos ER (legCell c (.yDst, k)) (0 + 1) ∅ 0)
      ∗ (bigSep Finset.univ fun k => cred (tallyAt (legCell c (.xSrc, k)) () N))
      ∗ (bigSep Finset.univ fun k => recvPts c (recvPiece c (true, k)) fullShare.left (recvF P c))
      ∗ (bigSep Finset.univ fun k => partPts c (partPiece c (some true, k)) fullShare (P c))
      ∗ bigSep Finset.univ fun k => outPts c (recvPiece c (true, k)) fullShare (outF P c)) := by
  unfold midPost
  rw [bigSep_sep', bigSep_sep', bigSep_sep', bigSep_sep']

theorem latePre_all : (bigSep Finset.univ (fun k => latePre P c k) : sProp 𝕄)
    = iprop((bigSep Finset.univ fun k => cred (tallyAt (legCell c (.xDst, k)) () N))
      ∗ (bigSep Finset.univ fun k => atPos ER (legCell c (.xDst, k)) 0 ∅ 0)
      ∗ (bigSep Finset.univ fun k => partPts c (partPiece c (some false, k)) fullShare (P c))
      ∗ bigSep Finset.univ fun k => iprop(∃ f, outPts c (recvPiece c (false, k)) fullShare f)) := by
  unfold latePre
  rw [bigSep_sep', bigSep_sep', bigSep_sep']

theorem latePost_all : (bigSep Finset.univ (fun k => latePost P c k) : sProp 𝕄)
    = iprop((bigSep Finset.univ fun k => atPos ER (legCell c (.xDst, k)) (0 + 1) ∅ 0)
      ∗ (bigSep Finset.univ fun k => recvPts c (recvPiece c (false, k)) fullShare (recvF P c))
      ∗ (bigSep Finset.univ fun k => partPts c (partPiece c (some false, k)) fullShare (P c))
      ∗ bigSep Finset.univ fun k => outPts c (recvPiece c (false, k)) fullShare (outF P c)) := by
  unfold latePost
  rw [bigSep_sep', bigSep_sep', bigSep_sep']

theorem drainPre_all : (bigSep Finset.univ (fun k : Fin 8 => drainPre c k) : sProp 𝕄)
    = iprop((bigSep Finset.univ fun k => cred (tallyAt (legCell c (.ySrc, k)) () N))
      ∗ (bigSep Finset.univ fun k => atPos ER (legCell c (.ySrc, k)) 0 ∅ 0)
      ∗ (bigSep Finset.univ fun k => cred (tallyAt (legCell c (.xSrc, k)) () N))
      ∗ bigSep Finset.univ fun k => atPos ER (legCell c (.xSrc, k)) 0 ∅ 0) := by
  unfold drainPre
  rw [bigSep_sep', bigSep_sep', bigSep_sep']

theorem drainPost_all : (bigSep Finset.univ (fun k => drainPost P c k) : sProp 𝕄)
    = iprop((bigSep Finset.univ fun k => atPos ER (legCell c (.ySrc, k)) (0 + 1) ∅ 0)
      ∗ (bigSep Finset.univ fun k => partPts c (partPiece c (none, k)) fullShare (P c))
      ∗ (bigSep Finset.univ fun k => atPos ER (legCell c (.xSrc, k)) (0 + 1) ∅ 0)
      ∗ bigSep Finset.univ fun k => recvPts c (recvPiece c (true, k)) fullShare.right (recvF P c)) := by
  unfold drainPost
  rw [bigSep_sep', bigSep_sep', bigSep_sep']

/-- Chunks of the landing buffer at contents not named. -/
theorem recv_any (I : Fin 8 → Finset S2048x8192.Idx) (f : Vec F S2048x8192 .bf16) :
    (bigSep Finset.univ fun k => recvPts c (I k) fullShare f : sProp 𝕄)
      ⊢ bigSep Finset.univ fun k => iprop(∃ f, recvPts c (I k) fullShare f) := by
  have h : ∀ k, (recvPts c (I k) fullShare f : sProp 𝕄) ⊢ iprop(∃ f, recvPts c (I k) fullShare f) := fun k => by
    iintro H; iexists f; iexact H
  exact bigSep_mono fun k _ => h k
/-- Chunks of the result at contents not named. -/
theorem out_any (I : Fin 8 → Finset S2048x8192.Idx) (f : Vec F S2048x8192 .f32) :
    (bigSep Finset.univ fun k => outPts c (I k) fullShare f : sProp 𝕄)
      ⊢ bigSep Finset.univ fun k => iprop(∃ f, outPts c (I k) fullShare f) := by
  have h : ∀ k, (outPts c (I k) fullShare f : sProp 𝕄) ⊢ iprop(∃ f, outPts c (I k) fullShare f) := fun k => by
    iintro H; iexists f; iexact H
  exact bigSep_mono fun k _ => h k

/-- All own chunks of the landing buffer, their halves joined. -/
theorem recv_join (f : Vec F S2048x8192 .bf16) :
    iprop((bigSep Finset.univ fun k => recvPts c (recvPiece c (true, k)) fullShare.left f)
      ∗ bigSep Finset.univ fun k => recvPts c (recvPiece c (true, k)) fullShare.right f)
      ⊢ (bigSep Finset.univ fun k => recvPts c (recvPiece c (true, k)) fullShare f : sProp 𝕄) := by
  rw [← bigSep_sep']
  exact bigSep_mono fun k _ => (recv_halves c _ f).2

end Families

/-! ## The body -/

variable (P : Dev nD → Vec F S4096x8192 .bf16)

/-- Before the body: the exchange's ghost state, the scratch, and the three buffers. -/
def bodyPre (c : Dev nD) : sProp 𝕄 :=
  iprop(opened P c ∗ levAts L lv ∗ idle c ∗ owing c (O₀ c)
    ∗ partPts c Finset.univ fullShare (P c) ∗ (∃ f, recvPts c Finset.univ fullShare f) ∗ ∃ f, outPts c Finset.univ fullShare f)
/-- After the body: every semaphore at zero, the landing buffer and the result at what they are to hold. -/
def bodyPost (c : Dev nD) : sProp 𝕄 :=
  iprop(idle c ∗ owing c 0 ∗ semVal (barCell c) 0 ∗ (bigSep Finset.univ fun q : Leg × Fin 8 => semVal (legCell c q) 0)
    ∗ partPts c Finset.univ fullShare (P c) ∗ recvPts c Finset.univ fullShare (recvF P c) ∗ outPts c Finset.univ fullShare (outF P c))

set_option maxHeartbeats 1600000 in
/-- The handshake and the four loops, one after another. -/
theorem runs_loops (c : Dev nD) (Kt : PUnit → sProp 𝕄) :
    iprop(bodyPre P c ∗ (bodyPost P c -∗ Kt ⟨⟩)) ⊢ runs c (loops c) Kt := by
  unfold bodyPre bodyPost opened tokens credits loops
  iintro ⟨⟨⟨⟨%κ, #Hk, HatB, Hlegs, HtY, HtX, Htok⟩, HcB, HcY, HcX⟩, #Hlev, Hi, HO, Hpart, ⟨%fr, Hrecv⟩, ⟨%fo, Hout⟩⟩, Hnext⟩
  ihave Hlegs := (Entails.of_eq (bigSep_sep' Finset.univ _ _)) $$ Hlegs
  icases Hlegs with ⟨Hat, Hre⟩
  ihave Hat := (Entails.of_eq (legs_split _)) $$ Hat
  icases Hat with ⟨HatYS, HatYD, HatXS, HatXD⟩
  ihave Hre := (Entails.of_eq (legs_split _)) $$ Hre
  icases Hre with ⟨HreYS, HreYD, HreXS, HreXD⟩
  ihave Htok := (Entails.of_eq (legs_split _)) $$ Htok
  icases Htok with ⟨HtYS, HtYD, HtXS, HtXD⟩
  ihave Hrecv := (Entails.of_eq (recv_pieces c fullShare fr)) $$ Hrecv
  icases Hrecv with ⟨HrM, HrO⟩
  ihave Hout := (Entails.of_eq (out_pieces c fullShare fo)) $$ Hout
  icases Hout with ⟨HoM, HoO⟩
  ihave Hpart := (part_pieces c fullShare (P c)).1 $$ Hpart
  icases Hpart with ⟨⟨HpS, HpM, HpO⟩, HpR⟩
  unfold runs
  rw [wp_bind]
  iapply (runs_handshake P κ c _)
  isplitr; · iexact Hk
  isplitr; · iexact Hlev
  isplitl [HO]; · iexact HO
  isplitl [HcB]; · iexact HcB
  isplitl [HatB]; · iexact HatB
  isplitl [HtY]; · iexact HtY
  isplitl [HtX]; · iexact HtX
  isplitl [HrM HreYD]
  · iapply (Entails.of_eq ((barPay_yp c).trans (bigSep_sep' _ _ _)).symm)
    isplitl [HrM]
    · iapply (recv_any c (fun k => recvPiece c (true, k)) fr)
      iexact HrM
    iexact HreYD
  isplitl [HrO HreXD]
  · iapply (Entails.of_eq ((barPay_xn c).trans (bigSep_sep' _ _ _)).symm)
    isplitl [HrO]
    · iapply (recv_any c (fun k => recvPiece c (false, k)) fr)
      iexact HrO
    iexact HreXD
  iintro ⟨HO, HatB, HbY, HbX⟩
  rw [wp_bind]
  iapply (runs_sends P κ c _)
  isplitr; · isplitr <;> iassumption
  isplitl [HO]; · iexact HO
  isplitl [HpS HbY HtYS HreYS HtYD]
  · iapply (Entails.of_eq (sendPre_all P c).symm)
    isplitl [HpS]; · iexact HpS
    isplitl [HbY]; · iexact HbY
    isplitl [HtYS]; · iexact HtYS
    isplitl [HreYS]; · iexact HreYS
    iexact HtYD
  iintro ⟨HO, HcYS⟩
  rw [wp_bind]
  iapply (runs_mids P κ c _)
  isplitr; · isplitr <;> iassumption
  isplitl [Hi HO]; · isplitl [Hi] <;> iassumption
  isplitl [HcY HatYD HbX HtXS HreXS HtXD HpM HoM]
  · iapply (Entails.of_eq (midPre_all P c).symm)
    isplitl [HcY]; · iexact HcY
    isplitl [HatYD]; · iexact HatYD
    isplitl [HbX]; · iexact HbX
    isplitl [HtXS]; · iexact HtXS
    isplitl [HreXS]; · iexact HreXS
    isplitl [HtXD]; · iexact HtXD
    isplitl [HpM]; · iexact HpM
    iapply (out_any c (fun k => recvPiece c (true, k)) fo)
    iexact HoM
  iintro ⟨⟨Hi, HO⟩, Hm⟩
  ihave Hm := (Entails.of_eq (midPost_all P c)) $$ Hm
  icases Hm with ⟨HatYD, HcXS, HrL, HpM, HoM⟩
  rw [wp_bind]
  iapply (runs_lates P κ c _)
  isplitr; · isplitr <;> iassumption
  isplitl [Hi HO]; · isplitl [Hi] <;> iassumption
  isplitl [HcX HatXD HpO HoO]
  · iapply (Entails.of_eq (latePre_all P c).symm)
    isplitl [HcX]; · iexact HcX
    isplitl [HatXD]; · iexact HatXD
    isplitl [HpO]; · iexact HpO
    iapply (out_any c (fun k => recvPiece c (false, k)) fo)
    iexact HoO
  iintro ⟨⟨Hi, HO⟩, Hm⟩
  ihave Hm := (Entails.of_eq (latePost_all P c)) $$ Hm
  icases Hm with ⟨HatXD, HrO, HpO, HoO⟩
  iapply (wp_fupd _ _ _ _ _)
  iapply (runs_drains P κ c _)
  isplitr; · isplitr <;> iassumption
  isplitl [HO]; · iexact HO
  isplitl [HcYS HatYS HcXS HatXS]
  · iapply (Entails.of_eq (drainPre_all c).symm)
    isplitl [HcYS]; · iexact HcYS
    isplitl [HatYS]; · iexact HatYS
    isplitl [HcXS]; · iexact HcXS
    iexact HatXS
  iintro ⟨HO, Hm⟩
  ihave Hm := (Entails.of_eq (drainPost_all P c)) $$ Hm
  icases Hm with ⟨HatYS, HpS, HatXS, HrR⟩
  imod (close_all P κ c) $$ [HatB HatYS HatYD HatXS HatXD] with Hz
  · isplitr; · iexact Hk
    isplitl [HatB]; · iexact HatB
    iapply (Entails.of_eq (legs_split _).symm)
    isplitl [HatYS]; · iexact HatYS
    isplitl [HatYD]; · iexact HatYD
    isplitl [HatXS]; · iexact HatXS
    iexact HatXD
  icases Hz with ⟨HzB, Hz⟩
  imodintro
  iapply Hnext
  isplitl [Hi]; · iexact Hi
  isplitl [HO]; · iexact HO
  isplitl [HzB]; · iexact HzB
  isplitl [Hz]; · iexact Hz
  isplitl [HpS HpM HpO HpR]
  · iapply (part_pieces c fullShare (P c)).2
    isplitr [HpR]
    · isplitl [HpS]; · iexact HpS
      isplitl [HpM] <;> iassumption
    iexact HpR
  isplitl [HrL HrR HrO]
  · iapply (Entails.of_eq (recv_pieces c fullShare (recvF P c)).symm)
    isplitl [HrL HrR]
    · iapply (recv_join c (recvF P c))
      isplitl [HrL] <;> iassumption
    iexact HrO
  iapply (Entails.of_eq (out_pieces c fullShare (outF P c)).symm)
  isplitl [HoM] <;> iassumption

end Cert.KernelIdeal.Scatter

end
-- ==== Proof.Gemm.lean ====
/-
  The matrix product of one device: a grid of 128 points, eight blocks of columns by sixteen blocks of rows summed
  over. Each block of columns is accumulated in a scratch buffer over sixteen points and written at the last of them.
-/
module

public import proofs.«01_k».proof.Proof.Protocol
public import proofs.«01_k».proof.Proof.Gen.KernelIdeal.Launch
public import Idealize.ShloMosaic.Lib.VecWindow
public import Idealize.ShloMosaic.Lib.WordCmp
public import Idealize.ShloMosaic.Lib.Pipeline.FrameBody

@[expose] public section

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

/-! ## The body at one point -/

/-- Whether a point is the first of its block of columns. -/
abbrev first (i : grid0.Coords) : Prop :=
  Scalar.cmpi .ne (Scalar.extui (Scalar.cmpi .eq (BitVec.ofNat 32 (i 1).val) 0#32)) 0#32 = 1#1
/-- Whether a point is the last of its block of columns. -/
abbrev final (i : grid0.Coords) : Prop := k0_cond2 i = 1#1

theorem first_iff (t : Fin cfg0.N) : first (grid0.coords t) ↔ t.val % 16 = 0 := by
  have ht : t.val < 128 := Nat.lt_of_lt_of_eq t.isLt N_0
  have e : (grid0.coords t 1).val = t.val / 1 % 16 := Pipeline.Grid.coords_val t 1 (by decide) rfl
  simp only [first, e]
  word_cmp
theorem final_iff (t : Fin cfg0.N) : final (grid0.coords t) ↔ t.val % 16 = 15 := by
  have ht : t.val < 128 := Nat.lt_of_lt_of_eq t.isLt N_0
  have e : (grid0.coords t 1).val = t.val / 1 % 16 := Pipeline.Grid.coords_val t 1 (by decide) rfl
  simp only [final, k0_cond2, e]
  word_cmp

open Classical in
/-- The sum after a point, from the sum `a` before it and the point's two blocks. -/
def stepSum (i : grid0.Coords) (x : Vec F S256x4096 .f32) (y : Vec F S256x1024 .f32) (a : Vec F S4096x1024 .f32) :
    Vec F S4096x1024 .f32 :=
  k0_pay2 (if first i then k0_pay1 else a) x y

open Classical in
/-- The output block after a point, from its contents `o` before it and the sum `a` after the point. -/
def stepOut (i : grid0.Coords) (a : Vec F S4096x1024 .f32) (o : Vec F S4096x1024 .bf16) : Vec F S4096x1024 .bf16 :=
  if final i then k0_pay3 a else o

set_option maxRecDepth 16384 in
set_option maxHeartbeats 4800000 in
/-- The body at a point adds the product of the two blocks to the sum, and at the last point writes the output block. -/
theorem runs_point (c : Dev nD) (i : grid0.Coords)
    (m2 : Memref sig .tc .vmem S256x4096 .f32) (h2 : m2.IsWhole) (m3 : Memref sig .tc .vmem S256x1024 .f32) (h3 : m3.IsWhole)
    (m4 : Memref sig .tc .vmem S4096x1024 .bf16) (h4 : m4.IsWhole) (m5 : Memref sig .tc .vmem S4096x1024 .f32) (h5 : m5.IsWhole)
    (x : Vec F S256x4096 .f32) (y : Vec F S256x1024 .f32) (o : Vec F S4096x1024 .bf16) (a : Vec F S4096x1024 .f32)
    (Kt : PUnit → sProp 𝕄) :
    iprop(owns (c : Thread nD τ) m2 fullShare x ∗ owns (c : Thread nD τ) m3 fullShare y
        ∗ owns (c : Thread nD τ) m4 fullShare o ∗ owns (c : Thread nD τ) m5 fullShare a
        ∗ (iprop(owns (c : Thread nD τ) m2 fullShare x ∗ owns (c : Thread nD τ) m3 fullShare y
            ∗ owns (c : Thread nD τ) m4 fullShare (stepOut i (stepSum i x y a) o)
            ∗ owns (c : Thread nD τ) m5 fullShare (stepSum i x y a)) -∗ Kt ⟨⟩))
      ⊢ wp frame (wpE (defs₀ (F := F)) 𝒱₀ (c : Thread nD τ) none) Set.univ (cc0__mm_body i m2 h2 m3 h3 m4 h4 m5 h5) Kt := by
  simp only [cc0__mm_body_eq_skeleton]
  unfold cc0__mm_body_skel owns
  iintro ⟨⟨%f2, %e2, H2⟩, ⟨%f3, %e3, H3⟩, ⟨%f4, %e4, H4⟩, ⟨%f5, %e5, H5⟩, Hk⟩
  subst e2 e3 e4 e5
  by_cases hf : first i <;> by_cases hl : final i <;>
  · sl_exec (disch := first | sl_exact hf | sl_exact hl)
    sl_step
    iapply Hk
    isplitl [H2]; · iexists _; isplitr; swap; iexact H2; ipureintro; rfl
    isplitl [H3]; · iexists _; isplitr; swap; iexact H3; ipureintro; rfl
    isplitl [H4]
    · iexists _; isplitr; swap; iexact H4
      ipureintro
      unfold stepOut stepSum
      first
        | rw [if_pos hl, View.read_writes_full]
          refine congrArg k0_pay3 ((View.readAt_full _ _ _).trans ((View.read_writes_full _ _ _ _ _).trans ?_))
          refine congr (congr (congrArg k0_pay2 ?_) (View.readAt_full _ _ _)) (View.readAt_full _ _ _)
          first
            | rw [if_pos hf]; exact View.readCov_full _ _ _ _ _
            | rw [if_neg hf]; exact View.readAt_full _ _ _
        | rw [if_neg hl]
    · iexists _; isplitr; swap; iexact H5
      ipureintro
      refine (View.read_writes_full _ _ _ _ _).trans ?_
      unfold stepSum
      refine congr (congr (congrArg k0_pay2 ?_) (View.readAt_full _ _ _)) (View.readAt_full _ _ _)
      first
        | rw [if_pos hf]; exact View.readCov_full _ _ _ _ _
        | rw [if_neg hf]; exact View.readAt_full _ _ _

/-! ## The sum at every point -/

variable (m : (ℓ : Loc nD τ sig) → Buf (Elt F) ℓ)

/-- The block of an array that a point works on. -/
def blockAt (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The sum after point `n`. -/
def sumAt (c : Dev nD) : (n : ℕ) → n < cfg0.N → Vec F S4096x1024 .f32
  | 0, h => stepSum (grid0.coords ⟨0, h⟩) (blockAt m c 0 ⟨0, h⟩) (blockAt m c 1 ⟨0, h⟩) k0_pay1
  | n + 1, h => stepSum (grid0.coords ⟨n + 1, h⟩) (blockAt m c 0 ⟨n + 1, h⟩) (blockAt m c 1 ⟨n + 1, h⟩) (sumAt c n (Nat.lt_of_succ_lt h))

/-- The sum at a point follows from the sum at the point before, and at the first point from any. -/
theorem sumAt_step (c : Dev nD) (t : Fin cfg0.N) (a : Vec F S4096x1024 .f32)
    (ha : ∀ (k : ℕ) (hk : k < cfg0.N), t.val = k + 1 → a = sumAt m c k hk) :
    stepSum (grid0.coords t) (blockAt m c 0 t) (blockAt m c 1 t) a = sumAt m c t.val t.isLt := by
  obtain ⟨n, hn⟩ := t
  cases n with
  | zero =>
    show _ = stepSum _ _ _ _
    unfold stepSum
    rw [if_pos ((first_iff ⟨0, hn⟩).mpr rfl), if_pos ((first_iff ⟨0, hn⟩).mpr rfl)]
  | succ n => rw [ha n (Nat.lt_of_succ_lt hn) rfl]; rfl

/-! ## The region's invariant -/

/-- The scratch buffers of the second call, and the generator register: untouched. -/
def unused (c : Dev nD) : sProp 𝕄 :=
  iprop((∃ f : Buf (Elt F) ((c : Thread nD τ).loc cc1_scratch4), (c : Thread nD τ).loc cc1_scratch4 ↦{fullShare} f)
    ∗ (∃ f : Buf (Elt F) ((c : Thread nD τ).loc cc1_scratch5), (c : Thread nD τ).loc cc1_scratch5 ↦{fullShare} f)
    ∗ (∃ f : Buf (Elt F) ((c : Thread nD τ).loc cc1_scratch6), (c : Thread nD τ).loc cc1_scratch6 ↦{fullShare} f)
    ∗ ∃ r, prngReg c r)

/-- The accumulator. -/
abbrev accM : Memref sig .tc .vmem S4096x1024 .f32 := Memref.whole cc0_scratch0

/-- Before point `n` the accumulator holds the sum after the point before. -/
def sumInv (c : Dev nD) (n : ℕ) : sProp 𝕄 :=
  iprop((∃ a, ⌜∀ (k : ℕ) (hk : k < cfg0.N), n = k + 1 → a = sumAt m c k hk⌝ ∗ owns (c : Thread nD τ) accM fullShare a)
    ∗ unused c)

/-- The data of the first call on device `c`. -/
def dat0 (c : Dev nD) : Dat τ (Elt F) Unit ℕ UU ℕ cfg0 c where
  A w := m ((c : Thread nD τ).loc (Pipeline.arrRef spec0 w))
  after w t := match w with
    | ⟨0, _⟩ => blockAt m c 0 t
    | ⟨1, _⟩ => blockAt m c 1 t
    | ⟨2, _⟩ => k0_pay3 (sumAt m c t.val t.isLt)
  Φ t := sumInv m c t.val
  q _ := fullShare
  owed _ := O₀ c

theorem dat0_A (c : Dev nD) (w : Fin cfg0.W) : (dat0 m c).A w = m ((c : Thread nD τ).loc (Pipeline.arrRef spec0 w)) := by
  dsimp only [dat0]
theorem dat0_after0 (c : Dev nD) (t : Fin cfg0.N) : (dat0 m c).after 0 t = blockAt m c 0 t := by dsimp only [dat0]
theorem dat0_after1 (c : Dev nD) (t : Fin cfg0.N) : (dat0 m c).after 1 t = blockAt m c 1 t := by dsimp only [dat0]
theorem dat0_after2 (c : Dev nD) (t : Fin cfg0.N) : (dat0 m c).after 2 t = k0_pay3 (sumAt m c t.val t.isLt) := by dsimp only [dat0]

/-- The body finds the point's blocks of the two arguments. -/
theorem before0 (c : Dev nD) (t : Fin cfg0.N) (d) : (dat0 m c).before 0 t d = blockAt m c 0 t :=
  ((dat0 m c).before_in_eq_fetched 0 rfl (fun _ => rfl) (fun _ _ _ => rfl)
    (fun t => by rw [dat0_after0]; unfold Dat.blockOf blockAt; rw [dat0_A]) t d).trans
    (by unfold Dat.fetched Dat.blockOf blockAt; rw [dat0_A]; rfl)
theorem before1 (c : Dev nD) (t : Fin cfg0.N) (d) : (dat0 m c).before 1 t d = blockAt m c 1 t :=
  ((dat0 m c).before_in_eq_fetched 1 rfl (fun _ => rfl) (fun _ _ _ => rfl)
    (fun t => by rw [dat0_after1]; unfold Dat.blockOf blockAt; rw [dat0_A]) t d).trans
    (by unfold Dat.fetched Dat.blockOf blockAt; rw [dat0_A]; rfl)

/-- The output block is written at the last point of a block of columns only. -/
theorem out_idle : ∀ t : Fin cfg0.N, ¬ t.val % 16 = 15 → cfg0.idle 2 (grid0.coords t) = true ∧ (cfg0.win 2).flush t = false :=
  (by decide +kernel : ∀ t : Fin grid0.N, ¬ t.val % 16 = 15 → cfg0.idle 2 (grid0.coords t) = true ∧ (cfg0.win 2).flush t = false)
theorem out_live : ∀ t : Fin cfg0.N, t.val % 16 = 15 → cfg0.idle 2 (grid0.coords t) = false :=
  (by decide +kernel : ∀ t : Fin grid0.N, t.val % 16 = 15 → cfg0.idle 2 (grid0.coords t) = false)

/-- A window's staging buffer at a point. -/
abbrev stg0 (t : Fin cfg0.N) : Memref sig .tc .vmem S256x4096 .f32 := win0_0.stage (cfg0.slots t 0)
abbrev stg1 (t : Fin cfg0.N) : Memref sig .tc .vmem S256x1024 .f32 := win0_1.stage (cfg0.slots t 1)
abbrev stg2 (t : Fin cfg0.N) : Memref sig .tc .vmem S4096x1024 .bf16 := win0_2.stage (cfg0.slots t 2)

theorem leaves0 (c : Dev nD) (t : Fin cfg0.N) :
    (dat0 m c).leavesExact 0 t = owns (c : Thread nD τ) (stg0 t) fullShare (blockAt m c 0 t) := by
  unfold Dat.leavesExact
  rw [show cfg0.idle 0 (cfg0.grid.coords t) = false from rfl, dat0_after0]
theorem leaves1 (c : Dev nD) (t : Fin cfg0.N) :
    (dat0 m c).leavesExact 1 t = owns (c : Thread nD τ) (stg1 t) fullShare (blockAt m c 1 t) := by
  unfold Dat.leavesExact
  rw [show cfg0.idle 1 (cfg0.grid.coords t) = false from rfl, dat0_after1]

/-- What the body leaves in the output's staging buffer is what the data say. -/
theorem leaves2 (c : Dev nD) (t : Fin cfg0.N) (d) :
    owns (c : Thread nD τ) (stg2 t) fullShare (stepOut (grid0.coords t) (sumAt m c t.val t.isLt) ((dat0 m c).before 2 t d))
      ⊢ (dat0 m c).leavesExact 2 t := by
  by_cases h : t.val % 16 = 15
  · unfold Dat.leavesExact stepOut
    rw [if_pos ((final_iff t).mpr h), show cfg0.idle 2 (cfg0.grid.coords t) = false from out_live t h, dat0_after2]
  · rw [Dat.leavesExact_idle (dat0 m c) 2 t (out_idle t h).1 (out_idle t h).2]
    unfold stepOut
    rw [if_neg (fun hf => h ((final_iff t).mp hf))]
    iintro H
    iexists d; iexact H

/-- What the body is called with at a point, and what it returns. -/
def pointPre (c : Dev nD) (t : Fin cfg0.N) : sProp 𝕄 :=
  iprop((dat0 m c).Φ t.castSucc ∗ (dat0 m c).owesAt () t.castSucc
    ∗ (∃ d, owns (c : Thread nD τ) (stg0 t) fullShare ((dat0 m c).before 0 t d))
    ∗ (∃ d, owns (c : Thread nD τ) (stg1 t) fullShare ((dat0 m c).before 1 t d))
    ∗ (∃ d, owns (c : Thread nD τ) (stg2 t) fullShare ((dat0 m c).before 2 t d)))
def pointPost (c : Dev nD) (t : Fin cfg0.N) : sProp 𝕄 :=
  iprop((dat0 m c).Φ t.succ ∗ (dat0 m c).owesAt () t.succ
    ∗ (dat0 m c).leavesExact 0 t ∗ (dat0 m c).leavesExact 1 t ∗ (dat0 m c).leavesExact 2 t)

theorem sound_point (c : Dev nD) (t : Fin cfg0.N) :
    pointPre m c t ⊢ wp frame (wpE (defs₀ (F := F)) 𝒱₀ (c : Thread nD τ) none) Set.univ (bodyAt0 t) (fun _ => pointPost m c t) := by
  unfold pointPre pointPost bodyAt0
  simp only [before0, before1]
  rw [show (dat0 m c).owesAt () t.succ = (dat0 m c).owesAt () t.castSucc from rfl,
    show (dat0 m c).Φ t.succ = sumInv m c (t.val + 1) from rfl,
    show (dat0 m c).Φ t.castSucc = sumInv m c t.val from rfl, leaves0, leaves1]
  unfold sumInv
  iintro ⟨⟨⟨%a, %ha, Ha⟩, Hu⟩, HO, ⟨%d0, H0⟩, ⟨%d1, H1⟩, ⟨%d2, H2⟩⟩
  iapply (runs_point c (grid0.coords t) _ _ _ _ _ _ _ _ _ _ _ a _)
  isplitl [H0]; · iexact H0
  isplitl [H1]; · iexact H1
  isplitl [H2]; · iexact H2
  isplitl [Ha]; · iexact Ha
  rw [sumAt_step m c t a ha]
  iintro ⟨H0, H1, H2, Ha⟩
  isplitl [Ha Hu]
  · isplitl [Ha]
    · iexists _; isplitr; swap; iexact Ha
      ipureintro
      intro k hk e
      obtain rfl : t.val = k := by omega
      rfl
    iexact Hu
  isplitl [HO]; · iexact HO
  isplitl [H0]; · iexact H0
  isplitl [H1]; · iexact H1
  iapply (leaves2 m c t _) $$ H2

theorem defs₀_row0 (t : Fin cfg0.N) : defs₀ (F := F) .tc cfg0.body (cfg0.bodyArgs t (cfg0.slots t)) = bodyAt0 t := by
  unfold defs₀; rw [Defs.onTc_tc]

/-- The body meets its data at every point. -/
theorem body0 (c : Dev nD) : Pipeline.BodyObligation (dat0 (F := F) m c) (defs₀ (F := F)) 𝒱₀ () Set.univ := fun t => by
  rw [bigSep_W0, bigSep_W0, defs₀_row0]
  exact triple_restated (sound_point m c t) rfl .rfl fun _ => .rfl

/-- What the call is entered with is the invariant before the first point. -/
theorem enter0 (c : Dev nD) : iprop(Pipeline.scopedRest spec0 c ∗ ∃ r, prngReg c r) ⊢ (dat0 (F := F) m c).Φ 0 := by
  rw [scopedRest0_eq, show (dat0 m c).Φ 0 = sumInv m c 0 from rfl]
  unfold sumInv unused
  simp only [owns_whole]
  iintro ⟨⟨⟨%a, Ha⟩, H4, H5, H6⟩, Hr⟩
  isplitl [Ha]
  · iexists a; isplitr
    · ipureintro; intro k hk e; omega
    iexact Ha
  isplitl [H4]; · iexact H4
  isplitl [H5]; · iexact H5
  isplitl [H6] <;> iassumption

/-- The invariant after the last point gives back what the call was entered with. -/
theorem leave0 (c : Dev nD) : (dat0 (F := F) m c).Φ (Fin.last cfg0.N) ⊢ iprop(Pipeline.scopedRest spec0 c ∗ ∃ r, prngReg c r) := by
  rw [scopedRest0_eq, show (dat0 m c).Φ (Fin.last cfg0.N) = sumInv m c (Fin.last cfg0.N).val from rfl]
  unfold sumInv unused
  simp only [owns_whole]
  iintro ⟨⟨%a, -, Ha⟩, H4, H5, H6, Hr⟩
  isplitr [Hr]
  · isplitl [Ha]; · iexists a; iexact Ha
    isplitl [H4]; · iexact H4
    isplitl [H5] <;> iassumption
  iexact Hr

end Cert.KernelIdeal.Scatter

end
-- ==== Proof.Calls.lean ====
/-
  The two calls of the program as segments of one run: what each is entered with and what it leaves.
-/
module

public import proofs.«01_k».proof.Proof.Body
public import proofs.«01_k».proof.Proof.Gemm
public import proofs.«01_k».proof.Proof.Gen.KernelIdeal.Regions
public import Idealize.ShloMosaic.Lib.Pipeline.RegionArraysS
public import Idealize.ShloMosaic.Lib.Pipeline.RegionTalk

@[expose] public section

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The unscoped buffers between the calls -/

/-- The partial product a device holds after the first call. -/
def part (c : Dev nD) : Vec F S4096x8192 .bf16 := (dat0 m c).arrAt 2 cfg0.N

/-- A device's unscoped buffers at launch. -/
def V₀ (c : Dev nD) : Valuation τ sig (Elt F) := fun b => m (c, b)
/-- The same after the first call. -/
def V₁ (c : Dev nD) : Valuation τ sig (Elt F) := Pipeline.afterRegion (dat0 m c) (V₀ m c)
/-- The same after the second call: the result and the landing buffer are written. -/
def V₂ (c : Dev nD) : Valuation τ sig (Elt F) :=
  Function.update (Function.update (V₁ m c) main_v2_0 (outF (part m) c)) main_v2_1 (recvF (part m) c)

theorem V₁_part (c : Dev nD) : V₁ m c main_v1 = part m c :=
  Pipeline.afterRegion_arr (dat0 m c) (V₀ m c) winFacts0.arr_inj 2
theorem V₁_arg0 (c : Dev nD) : V₁ m c main_arg0 = m ((c : Thread nD τ).loc main_arg0) :=
  Pipeline.afterRegion_keeps (dat0 m c) (V₀ m c) winFacts0.arr_inj (dat0_A m c) main_arg0 (by decide)
theorem V₁_arg1 (c : Dev nD) : V₁ m c main_arg1 = m ((c : Thread nD τ).loc main_arg1) :=
  Pipeline.afterRegion_keeps (dat0 m c) (V₀ m c) winFacts0.arr_inj (dat0_A m c) main_arg1 (by decide)

theorem V₂_recv (c : Dev nD) : V₂ m c main_v2_1 = recvF (part m) c := Function.update_self _ _ _
theorem V₂_out (c : Dev nD) : V₂ m c main_v2_0 = outF (part m) c := by
  unfold V₂
  rw [Function.update_of_ne (StableHlo.devRef_ne_of_ne (by decide))]
  exact Function.update_self _ _ _
/-- A buffer that is neither the result nor the landing buffer keeps what it held before the second call. -/
theorem V₂_of_ne (c : Dev nD) (r : Ref sig .tc) (h : r ≠ main_v2_0) (h' : r ≠ main_v2_1) : V₂ m c r = V₁ m c r := by
  unfold V₂
  rw [Function.update_of_ne (StableHlo.devRef_ne_of_ne h'), Function.update_of_ne (StableHlo.devRef_ne_of_ne h)]

/-- The unscoped buffers, one by one. -/
theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
        ∗ (((c : Thread nD τ).loc main_v1) ↦{fullShare} W main_v1) ∗ (((c : Thread nD τ).loc main_v2_0) ↦{fullShare} W main_v2_0)
        ∗ (((c : Thread nD τ).loc main_v2_1) ↦{fullShare} W main_v2_1)) := by
  unfold StableHlo.held
  rw [bigSep_eq_bigSepL_of_eq [Proc.devRef .tc main_arg0, Proc.devRef .tc main_arg1, Proc.devRef .tc main_v1, Proc.devRef .tc main_v2_0,
    Proc.devRef .tc main_v2_1] (by decide) (by decide)]
  rfl

/-! ## The semaphores of the second call -/

/-- The second call's semaphores: the copy cells between devices and the three of the local copies. -/
def osem1 : (Leg × Fin 8) ⊕ Fin 3 → SemLoc sig
  | .inl q => .dma (legSem q)
  | .inr i => .dma (![cc1_scratch7.sem, cc1_scratch8.sem, cc1_scratch9.sem] i)

theorem osem1_facts : Pipeline.OwnSemFacts (pcfgs (F := F) 1).spec osem1 where
  isScoped := by decide +kernel
  inj := by decide +kernel
  disj _ w := w.elim0

/-- The three semaphores of the local copies at zero. -/
def copies (c : Dev nD) : sProp 𝕄 :=
  iprop(semVal ((c : Thread nD τ), .dma cc1_scratch7.sem) 0 ∗ semVal ((c : Thread nD τ), .dma cc1_scratch8.sem) 0
    ∗ semVal ((c : Thread nD τ), .dma cc1_scratch9.sem) 0)

theorem ownSems1_eq (c : Dev nD) : (Pipeline.ownSems0 osem1 c : sProp 𝕄)
    = iprop((bigSep Finset.univ fun q : Leg × Fin 8 => semVal (legCell c q) 0) ∗ copies c) := by
  unfold Pipeline.ownSems0 copies
  rw [bigSep_univ_sum]
  refine congrArg₂ _ rfl ?_
  exact bigSep_univ_eq_bigSepL [0, 1, 2] (by decide) (by decide) _

/-! ## The proof data of the second call -/

/-- What the second call's body is entered with. -/
def entry1 (c : Dev nD) : sProp 𝕄 :=
  iprop(Pipeline.scopedRest cfg1.spec c ∗ (∃ r, prngReg c r) ∗ StableHlo.held (c : Thread nD τ) (Pipeline.ucRefs τ sig) (V₁ m c)
    ∗ opened (part m) c ∗ copies c ∗ levAts L lv)
/-- What it leaves. -/
def exit1 (c : Dev nD) : sProp 𝕄 :=
  iprop(Pipeline.scopedRest cfg1.spec c ∗ (∃ r, prngReg c r) ∗ StableHlo.held (c : Thread nD τ) (Pipeline.ucRefs τ sig) (V₂ m c)
    ∗ Pipeline.ownSems0 osem1 c ∗ semVal (barCell c) 0)

/-- The second call has no windows; its one point owes the signals and landings at first and nothing after. -/
def dat1 (c : Dev nD) : Dat τ (Elt F) Unit ℕ UU ℕ cfg1 c where
  A w := w.elim0
  after w := w.elim0
  Φ t := if t.val = 0 then entry1 m c else exit1 m c
  q w := w.elim0
  owed t := if t.val = 0 then O₀ c else 0

def pdats : (p : Fin 2) → (c : Dev nD) → Dat τ (Elt F) Unit ℕ UU ℕ (Pipeline.pin (pcfgs (F := F)) adm p) c
  | 0 => dat0 m
  | 1 => dat1 m

theorem owesAt_of {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    (owing c O : sProp 𝕄) ⊢ (dat.owesAt () t : sProp 𝕄) := by
  unfold owing Dat.owesAt Pipeline.owesWithin Dat.bound
  rw [h, hr]
  iintro ⟨%W, HO⟩
  iexists W; isplitr
  · ipureintro; exact fun _ _ => Or.inl trivial
  iexact HO
theorem of_owesAt {cfg : Pipeline.Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ owing c O := by
  unfold owing Dat.owesAt Pipeline.owesWithin
  rw [h]
  iintro ⟨%W, -, HO⟩
  iexists W; iexact HO

theorem owed1_zero (c : Dev nD) : (pdats m 1 c).owed 0 = O₀ c := by
  show (if (0 : Fin (cfg1.N + 1)).val = 0 then O₀ c else 0) = O₀ c; exact if_pos rfl
theorem owed1_last (c : Dev nD) : (pdats m 1 c).owed (Fin.last _) = 0 := by
  show (if (Fin.last cfg1.N).val = 0 then O₀ c else 0) = 0
  rw [Fin.val_last, if_neg (by rw [show cfg1.N = 1 from N_1]; decide)]

theorem noWindows {M : Type} [URA M] (Φ : Fin 0 → sProp M) : bigSep Finset.univ Φ = (BI.emp : sProp M) :=
  bigSep_univ_eq_bigSepL [] (by decide) (by decide) Φ

theorem part_whole (c : Dev nD) (f : Vec F S4096x8192 .bf16) :
    (partPts c Finset.univ fullShare f : sProp 𝕄) = (((c : Thread nD τ).loc main_v1) ↦{fullShare} f) := rfl
theorem recv_whole (c : Dev nD) (f : Vec F S2048x8192 .bf16) :
    (recvPts c Finset.univ fullShare f : sProp 𝕄) = (((c : Thread nD τ).loc main_v2_1) ↦{fullShare} f) := rfl
theorem out_whole (c : Dev nD) (f : Vec F S2048x8192 .f32) :
    (outPts c Finset.univ fullShare f : sProp 𝕄) = (((c : Thread nD τ).loc main_v2_0) ↦{fullShare} f) := rfl

/-- A program that first reads the device's number. -/
theorem runs_deviceId (c : Dev nD) (k : Dev nD → Prog (TpuEff nD τ sig (Elt F) Λ₀ .tc) PUnit) (Kt : PUnit → sProp 𝕄) :
    runs c (Prog.lift .deviceId >>= k) Kt = runs c (k c) Kt := wp_deviceId ..

/-- The body of the second call, from what it is entered with to what it leaves. -/
theorem runs_body1 (c : Dev nD) (Kt : PUnit → sProp 𝕄) :
    iprop(entry1 m c ∗ owing c (O₀ c) ∗ (iprop(exit1 m c ∗ owing c 0) -∗ Kt ⟨⟩)) ⊢ runs c (bodyAt1 t1_0) Kt := by
  rw [body_eq_loops]
  rw [runs_deviceId]
  unfold entry1 exit1
  rw [ownSems1_eq, scopedRest1_eq, held_eq, held_eq, V₂_out, V₂_recv, V₂_of_ne m c main_arg0 (by decide) (by decide),
    V₂_of_ne m c main_arg1 (by decide) (by decide), V₂_of_ne m c main_v1 (by decide) (by decide), V₁_part]
  iintro ⟨⟨⟨Ha, Hb, Hc, Hd, He, Hf, Hg, H4, H5, H6⟩, Hr, ⟨Hx, Hy, Hp, Ho, Hv⟩, Hop, Hcp, #Hlev⟩, HO, Hnext⟩
  iapply (runs_loops (part m) c Kt)
  unfold bodyPre bodyPost idle copies
  icases Hcp with ⟨H7, H8, H9⟩
  isplitl [Hop H4 H5 H6 H7 H8 H9 HO Hp Ho Hv]
  · isplitl [Hop]; · iexact Hop
    isplitr; · iexact Hlev
    isplitl [H4 H5 H6 H7 H8 H9]
    · isplitl [H4]; · iexact H4
      isplitl [H5]; · iexact H5
      isplitl [H6]; · iexact H6
      isplitl [H7]; · iexact H7
      isplitl [H8] <;> iassumption
    isplitl [HO]; · iexact HO
    isplitl [Hp]; · iapply (Entails.of_eq (part_whole c _).symm) $$ Hp
    isplitl [Hv]
    · iexists _; iapply (Entails.of_eq (recv_whole c _).symm) $$ Hv
    · iexists _; iapply (Entails.of_eq (out_whole c _).symm) $$ Ho
  iintro ⟨⟨H4, H5, H6, H7, H8, H9⟩, HO, Hz, Hq, Hp, Hv, Ho⟩
  iapply Hnext
  isplitr [HO]; swap; · iexact HO
  isplitl [Ha Hb Hc Hd He Hf Hg H4 H5 H6]
  · isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [H4]; · iexact H4
    isplitl [H5] <;> iassumption
  isplitl [Hr]; · iexact Hr
  isplitl [Hx Hy Hp Ho Hv]
  · isplitl [Hx]; · iexact Hx
    isplitl [Hy]; · iexact Hy
    isplitl [Hp]; · iapply (Entails.of_eq (part_whole c _)) $$ Hp
    isplitl [Ho]; · iapply (Entails.of_eq (out_whole c _)) $$ Ho
    iapply (Entails.of_eq (recv_whole c _)) $$ Hv
  isplitr [Hz]; swap; · iexact Hz
  isplitl [Hq]; · iexact Hq
  isplitl [H7]; · iexact H7
  isplitl [H8] <;> iassumption

theorem defs₀_row1 (t : Fin cfg1.N) : defs₀ (F := F) .tc cfg1.body (cfg1.bodyArgs t (cfg1.slots t)) = bodyAt1 t := by
  unfold defs₀; rw [Defs.onTc_tc]

/-- The second call's body meets its data at its one point. -/
theorem body1 (c : Dev nD) : Pipeline.BodyObligation (dat1 m c) (defs₀ (F := F)) 𝒱₀ () Set.univ := fun t => by
  obtain rfl := fin_N1 t
  rw [noWindows, noWindows, defs₀_row1]
  rw [show (dat1 m c).Φ (t1_0 : Fin cfg1.N).castSucc = entry1 m c from rfl, show (dat1 m c).Φ (t1_0 : Fin cfg1.N).succ = exit1 m c from rfl]
  iintro ⟨He, HO, -⟩
  iapply (runs_body1 m c _)
  isplitl [He]; · iexact He
  isplitl [HO]; · iapply (of_owesAt (dat1 m c) (t1_0 : Fin cfg1.N).castSucc (O₀ c) (owed1_zero m c)) $$ HO
  iintro ⟨He, HO⟩
  isplitl [He]; · iexact He
  isplitl [HO]; · iapply (owesAt_of (dat1 m c) (t1_0 : Fin cfg1.N).succ 0 (owed1_last m c) rfl) $$ HO
  iempintro

/-! ## The segments -/

local notation "Segment" => Pipeline.RegionSeg (pcfgs (F := F)) adm (pdats m) () defs₀ 𝒱₀ L lv

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := (by decide : Pipeline.WinFacts cfg1.spec)
  pre := Pipeline.PreFacts.none _
  block_pos w := w.elim0
  arr_whole w := w.elim0
  stage_whole w := w.elim0

/-- A staging semaphore of the first call is at the lowest level. -/
theorem lv_stage (c : Dev nD) (w : Fin cfg0.W) (s : Fin (cfg0.win w).nbuf) (u : Unit) :
    lv ((c : Thread nD τ), .dma ((cfg0.win w).sem s)) u = 0 :=
  lv_other _ (by rintro ⟨⟩) (fun q h => (by decide +kernel : ∀ (w : Fin 3) (s : Fin (spec0 w).nbuf) (q : Leg × Fin 8), (spec0 w).sem s ≠ legSem q) w s q (SemLoc.dma.inj h)) u

theorem cut0 : Pipeline.LevelCut (pcfgs (F := F)) adm () L lv 0 O₀ (fun _ => 0) where
  hι c w s := by rw [L_tc]; exact Finset.mem_singleton_self _
  hιb c w s := (lv_stage c w s ()).le
  hD c g i h := O₀_pos h

set_option backward.isDefEq.respectTransparency.types false in
/-- The first call: the buffers go from launch to `V₁`, the exchange's ghost state rides along. -/
def reg0 : Segment 0 :=
  Pipeline.RegionSeg.ofHeldIn (pcfgs (F := F)) adm (pdats m) () defs₀ 𝒱₀ L lv 0 O₀ (Pipeline.ucRefs τ sig)
    (fun c => iprop(∃ r, prngReg c r)) (fun c => iprop(∃ r, prngReg c r)) kit0 rfl (fun c => (body0 m c).loose)
    (fun _ _ => rfl) (fun _ => rfl) (fun _ _ => ite_self _) (enter0 m) (leave0 m) (fun _ => 0) cut0 (ghost (part m)) (V₀ m) (fun c w => dat0_A m c w)

/-- What the second call needs from launch, and what it leaves. -/
theorem opens1 (c : Dev nD) : iprop(ghost (part m) c ∗ Pipeline.ownSems0 osem1 c ∗ levAts L lv)
    ⊢ (|={Set.univ}=> iprop(opened (part m) c ∗ copies c ∗ levAts L lv) : sProp 𝕄) := by
  rw [ownSems1_eq]
  iintro ⟨Hg, ⟨Hq, Hc⟩, Hl⟩
  imod (open_legs (part m) c) $$ [Hg Hq] with Ho
  · isplitl [Hg] <;> iassumption
  imodintro
  isplitl [Ho]; · iexact Ho
  isplitl [Hc] <;> iassumption

theorem cut1 : Pipeline.LevelCutOwed (pcfgs (F := F)) adm (pdats m) () L lv 1 (fun _ => 0) where
  hι _ w := w.elim0
  hιb _ w := w.elim0
  hD c t g i h := by
    have e : (pdats m 1 c).owed t = if t.val = 0 then O₀ c else 0 := rfl
    rw [e] at h
    split at h
    · exact O₀_pos h
    · exact absurd h (Nat.lt_irrefl 0)

theorem enter1 (c : Dev nD) : iprop(Pipeline.scopedRest cfg1.spec c ∗ (∃ r, prngReg c r)
      ∗ StableHlo.held (c : Thread nD τ) (Pipeline.ucRefs τ sig) (V₁ m c) ∗ (opened (part m) c ∗ copies c ∗ levAts L lv))
    ⊢ (pdats m 1 c).Φ 0 := .rfl

theorem leave1 (c : Dev nD) : (pdats m 1 c).Φ (Fin.last cfg1.N)
    ⊢ iprop(Pipeline.scopedRest cfg1.spec c ∗ (∃ r, prngReg c r) ∗ StableHlo.held (c : Thread nD τ) (Pipeline.ucRefs τ sig) (V₂ m c)
      ∗ Pipeline.ownSems0 osem1 c ∗ semVal (barCell c) 0) := .rfl

set_option backward.isDefEq.respectTransparency.types false in
/-- The second call: the buffers go from `V₁` to `V₂`, the exchange is run, the barrier's semaphore comes back at zero. -/
def reg1 : Segment 1 :=
  Pipeline.RegionSeg.ofTalk (pcfgs (F := F)) adm (pdats m) () defs₀ 𝒱₀ L lv 1 osem1 osem1_facts
    (Pipeline.ucRefs τ sig) (Pipeline.ucRefs τ sig) (Finset.Subset.refl _) kit1 rfl (fun c => (body1 m c).loose)
    (fun _ => 0) O₀ (fun c => (owed1_zero m c).trans (zero_add _).symm) (owed1_last m) (fun _ => rfl) (fun _ w => w.elim0)
    (V₁ m) (V₂ m) (fun _ b hb => absurd hb (by rw [Finset.sdiff_self]; exact Finset.notMem_empty b))
    (ghost (part m)) (fun c => semVal (barCell c) 0) (fun c => iprop(opened (part m) c ∗ copies c ∗ levAts L lv)) (fun c => semVal (barCell c) 0)
    (opens1 m) (enter1 m) (leave1 m) (fun c => by iintro H; imodintro; iexact H) (fun _ => 0) (cut1 m)
    (fun _ => iprop(emp)) (fun _ w => w.elim0) (fun _ w => w.elim0)

/-- Between the items a device holds its unscoped buffers, what it owes, its generator register and the exchange's ghost state. -/
def rest (c : Dev nD) : sProp 𝕄 := iprop(owing c (O₀ c) ∗ (∃ r, prngReg c r) ∗ ghost (part m) c)

theorem arrays_unscoped : Pipeline.arrRefs (τ := τ) spec0 ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, by
    have := winFacts0.arr_unscoped w
    simpa using this⟩

theorem reg0_pre (c : Dev nD) : iprop(StableHlo.held (c : Thread nD τ) (Pipeline.ucRefs τ sig) (V₀ m c) ∗ rest m c) ⊢ (reg0 m).pre c := by
  show _ ⊢ iprop(StableHlo.held (c.tc : Thread nD τ) (Pipeline.arrRefs spec0) (V₀ m c) ∗ (∃ r, prngReg c r)
    ∗ (StableHlo.held (c.tc : Thread nD τ) (Pipeline.ucRefs τ sig \ Pipeline.arrRefs spec0) (V₀ m c) ∗ ghost (part m) c)
    ∗ ∃ Wd, owes (c : Thread nD τ) (O₀ c) Wd)
  rw [StableHlo.held_sub_split (c.tc : Thread nD τ) arrays_unscoped (V₀ m c)]
  unfold rest owing
  iintro ⟨⟨Ha, Hu⟩, HO, Hp, Hg⟩
  isplitl [Ha]; · iexact Ha
  isplitl [Hp]; · iexact Hp
  isplitl [Hu Hg]
  · isplitl [Hu] <;> iassumption
  iexact HO
theorem reg0_post (c : Dev nD) : (reg0 m).post c ⊢ iprop(StableHlo.held (c : Thread nD τ) (Pipeline.ucRefs τ sig) (V₁ m c) ∗ rest m c) := by
  show iprop(StableHlo.held (c.tc : Thread nD τ) (Pipeline.arrRefs spec0) (V₁ m c) ∗ (∃ r, prngReg c r)
    ∗ (StableHlo.held (c.tc : Thread nD τ) (Pipeline.ucRefs τ sig \ Pipeline.arrRefs spec0) (V₀ m c) ∗ ghost (part m) c)
    ∗ ∃ Wd, owes (c : Thread nD τ) (O₀ c) Wd) ⊢ _
  rw [StableHlo.held_sub_split (c.tc : Thread nD τ) arrays_unscoped (V₁ m c),
    StableHlo.held_congr (c.tc : Thread nD τ) (S := Pipeline.ucRefs τ sig \ Pipeline.arrRefs spec0) (V := V₁ m c) (V' := V₀ m c)
      (Pipeline.afterRegion_off (dat0 m c) (V₀ m c) (Pipeline.ucRefs τ sig))]
  unfold rest owing
  iintro ⟨Ha, Hp, ⟨Hu, Hg⟩, HO⟩
  isplitl [Ha Hu]
  · isplitl [Ha] <;> iassumption
  isplitl [HO]; · iexact HO
  isplitl [Hp] <;> iassumption

theorem held_none (c : Dev nD) (W : Valuation τ sig (Elt F)) :
    (StableHlo.held (c.tc : Thread nD τ) (Pipeline.arrRefs (τ := τ) (pcfgs (F := F) 1).spec) W : sProp 𝕄) = BI.emp := by
  have : Pipeline.arrRefs (τ := τ) (pcfgs (F := F) 1).spec = ∅ := Finset.eq_empty_of_forall_notMem fun b hb => by
    obtain ⟨r, hr, -⟩ := Finset.mem_map.mp hb
    obtain ⟨w, -, -⟩ := Finset.mem_image.mp hr
    exact w.elim0
  rw [this]
  unfold StableHlo.held
  exact BI.bigSep_empty

theorem reg1_pre (c : Dev nD) : iprop(StableHlo.held (c : Thread nD τ) (Pipeline.ucRefs τ sig) (V₁ m c) ∗ rest m c) ⊢ (reg1 m).pre c := by
  show _ ⊢ iprop(StableHlo.held (c.tc : Thread nD τ) (Pipeline.arrRefs (τ := τ) (pcfgs (F := F) 1).spec) (V₁ m c) ∗ (∃ r, prngReg c r)
    ∗ (StableHlo.held (c.tc : Thread nD τ) (Pipeline.ucRefs τ sig) (V₁ m c) ∗ emp) ∗ ghost (part m) c ∗ ∃ Wd, owes (c : Thread nD τ) (0 + O₀ c) Wd)
  rw [held_none, zero_add]
  unfold rest owing
  iintro ⟨Hh, HO, Hp, Hg⟩
  isplitr; · iempintro
  isplitl [Hp]; · iexact Hp
  isplitl [Hh]
  · isplitl [Hh]; · iexact Hh
    iempintro
  isplitl [Hg] <;> iassumption

theorem reg1_post (c : Dev nD) : (reg1 m).post c
    ⊢ iprop(StableHlo.held (c : Thread nD τ) (Pipeline.ucRefs τ sig) (V₂ m c) ∗ semVal (barCell c) 0 ∗ ∃ W, owes (c : Thread nD τ) (0 : CellTallies nD τ sig Unit) W) := by
  show iprop(StableHlo.held (c.tc : Thread nD τ) (Pipeline.arrRefs (τ := τ) (pcfgs (F := F) 1).spec) (V₂ m c) ∗ (∃ r, prngReg c r)
    ∗ (StableHlo.held (c.tc : Thread nD τ) (Pipeline.ucRefs τ sig) (V₂ m c) ∗ emp) ∗ semVal (barCell c) 0 ∗ ∃ Wd, owes (c : Thread nD τ) 0 Wd) ⊢ _
  iintro ⟨-, -, ⟨Hh, -⟩, Hb, HO⟩
  isplitl [Hh]; · iexact Hh
  isplitl [Hb] <;> iassumption

end Cert.KernelIdeal.Scatter

end
-- ==== Proof.Run.lean ====
/-
  The whole run of the program: from any memory with zero counters every execution ends, the arguments unchanged,
  the result at the sum of the two partial products, and every counter back at zero.
-/
module

public import proofs.«01_k».proof.Proof.Calls
public import Idealize.ShloMosaic.Lib.Tactic

@[expose] public section

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens made at launch -/

theorem barCell_inj {c d : Dev nD} (h : barCell c = barCell d) : c = d := congrArg (fun g : GSem nD τ sig => g.1.1) h
theorem legCell_inj {c d : Dev nD} {q r : Leg × Fin 8} (h : legCell c q = legCell d r) : c = d ∧ q = r :=
  ⟨congrArg (fun g : GSem nD τ sig => g.1.1) h, legSem_inj (SemLoc.dma.inj (congrArg Prod.snd h))⟩
theorem leg_ne_barCell (c d : Dev nD) (q : Leg × Fin 8) : legCell c q ≠ barCell d :=
  fun h => leg_ne_bar q (congrArg Prod.snd h)

def barEmb : Dev nD ↪ GSem nD τ sig := ⟨fun c => barCell c, fun _ _ => barCell_inj⟩
def legEmb : Dev nD × (Leg × Fin 8) ↪ GSem nD τ sig :=
  ⟨fun x => legCell x.1 x.2, fun _ _ h => Prod.ext (legCell_inj h).1 (legCell_inj h).2⟩
abbrev barCells : Finset (GSem nD τ sig) := Finset.univ.map barEmb
abbrev legCells : Finset (GSem nD τ sig) := Finset.univ.map legEmb

/-- A duty: a signal to the barrier by one neighbour, or the one duty of a copy cell. -/
def dutyOf (x : Dev nD × (Bool ⊕ (Leg × Fin 8))) : GSem nD τ sig × ℕ × Bool :=
  match x.2 with
  | .inl d => (barCell x.1, 0, d)
  | .inr q => (legCell x.1 q, 0, true)
theorem dutyOf_inj : Function.Injective dutyOf := by
  rintro ⟨c, d | q⟩ ⟨c', d' | q'⟩ h
  · obtain rfl := barCell_inj (congrArg Prod.fst h)
    obtain rfl : d = d' := congrArg (fun t : GSem nD τ sig × ℕ × Bool => t.2.2) h
    rfl
  · exact absurd (congrArg Prod.fst h).symm (leg_ne_barCell _ _ _)
  · exact absurd (congrArg Prod.fst h) (leg_ne_barCell _ _ _)
  · obtain ⟨rfl, rfl⟩ := legCell_inj (congrArg Prod.fst h)
    rfl
def duties : Finset (GSem nD τ sig × ℕ × Bool) := Finset.univ.map ⟨dutyOf, dutyOf_inj⟩

theorem cells_apart : Disjoint barCells legCells := by
  rw [Finset.disjoint_left]
  rintro g h₁ h₂
  obtain ⟨c, -, rfl⟩ := Finset.mem_map.mp h₁
  obtain ⟨x, -, h⟩ := Finset.mem_map.mp h₂
  exact leg_ne_barCell _ _ _ h

/-- The ghost state made at launch. -/
def u₀ : UU :=
  (initOf (Pipeline.cells (Pipeline.pin (pcfgs (F := F)) adm) cellOf_inj) (Pipeline.launchToks (Pipeline.pin (pcfgs (F := F)) adm) cellOf_inj),
    (launchOf barCells legCells duties, 1))

/-- The exchange's part of it, kept with device 0 until it is dealt out. -/
def G (c : Dev nD) : sProp 𝕄 := if c = 0 then BI.own (ER (launchOf barCells legCells duties)) else iprop(emp)
theorem G_all : bigSep Finset.univ G = (BI.own (ER (launchOf barCells legCells duties)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Dealing the tokens to the devices that pay -/

theorem duties_all : bigSep duties (fun x => (dutyTok ER x.1 x.2.1 x.2.2 : sProp 𝕄))
    = iprop((bigSep Finset.univ fun c : Dev nD => dutyTok ER (barCell c) 0 true)
      ∗ (bigSep Finset.univ fun c : Dev nD => dutyTok ER (barCell c) 0 false)
      ∗ bigSep Finset.univ fun x : Dev nD × (Leg × Fin 8) => dutyTok ER (legCell x.1 x.2) 0 true) := by
  unfold duties
  rw [bigSep_map, bigSep_univ_prod, bigSep_univ_prod,
    bigSep_congr (Ψ := fun c : Dev nD => iprop(dutyTok ER (barCell c) 0 true ∗ dutyTok ER (barCell c) 0 false
      ∗ bigSep Finset.univ fun q : Leg × Fin 8 => dutyTok ER (legCell c q) 0 true)) fun c _ => ?_, bigSep_sep', bigSep_sep']
  rw [bigSep_univ_sum, bigSep_univ_eq_bigSepL [true, false] (by decide) (by decide)]
  exact BI.equiv_iff.mp ⟨BI.sep_assoc, BI.sep_assoc'⟩

/-- Crossing to the neighbour along a leg. -/
def across (l : Leg) : Dev nD ≃ Dev nD := ⟨peer l, peer l, peer_peer l, peer_peer l⟩
def acrossAll : Dev nD × (Leg × Fin 8) ≃ Dev nD × (Leg × Fin 8) where
  toFun x := (peer x.2.1 x.1, x.2)
  invFun x := (peer x.2.1 x.1, x.2)
  left_inv x := by simp only [peer_peer]
  right_inv x := by simp only [peer_peer]

theorem duties_dealt : bigSep duties (fun x => (dutyTok ER x.1 x.2.1 x.2.2 : sProp 𝕄)) = bigSep Finset.univ tokens := by
  rw [duties_all, bigSep_univ_equiv (across .yDst) (fun c : Dev nD => (dutyTok ER (barCell c) 0 true : sProp 𝕄)),
    bigSep_univ_equiv (across .xDst) (fun c : Dev nD => (dutyTok ER (barCell c) 0 false : sProp 𝕄)),
    bigSep_univ_equiv acrossAll (fun x : Dev nD × (Leg × Fin 8) => (dutyTok ER (legCell x.1 x.2) 0 true : sProp 𝕄)), bigSep_univ_prod]
  unfold tokens
  rw [bigSep_sep', bigSep_sep']
  rfl

/-! ## What is owed to each cell at launch -/

theorem owesLeg_bar (l : Leg) (d c : Dev nD) : owesLeg l d 0 (barCell c) () = 0 := by
  unfold owesLeg
  rw [Finset.sum_apply, Finsupp.finset_sum_apply]
  refine Finset.sum_eq_zero fun k _ => ?_
  rw [tallyAt_ne_cell (leg_ne_barCell _ _ _).symm]; rfl

theorem owesLeg_leg (l l' : Leg) (d c : Dev nD) (k : Fin 8) :
    owesLeg l d 0 (legCell c (l', k)) () = if l' = l ∧ d = peer l c then N else 0 := by
  unfold owesLeg
  rw [Finset.sum_apply, Finsupp.finset_sum_apply]
  simp only [Nat.zero_le, Finset.filter_true]
  by_cases h : l' = l ∧ d = peer l c
  · obtain ⟨rfl, rfl⟩ := h
    rw [if_pos ⟨rfl, rfl⟩, Finset.sum_eq_single k]
    · rw [tallyAt_apply, peer_peer, if_pos ⟨rfl, rfl⟩]
    · intro j _ hj
      rw [tallyAt_apply, if_neg]
      rintro ⟨e, -⟩
      exact hj (congrArg Prod.snd (legCell_inj e).2).symm
    · exact fun hk => absurd (Finset.mem_univ k) hk
  · rw [if_neg h]
    refine Finset.sum_eq_zero fun j _ => ?_
    rw [tallyAt_apply, if_neg]
    rintro ⟨e, -⟩
    obtain ⟨e₁, e₂⟩ := legCell_inj e
    exact h ⟨congrArg Prod.fst e₂, by rw [e₁, peer_peer]⟩

theorem tally_bar (l : Leg) (d c : Dev nD) : (tallyAt (barCell (peer l d)) () 1 : CellTallies nD τ sig Unit) (barCell c) () = if d = peer l c then 1 else 0 := by
  rw [tallyAt_apply]
  by_cases h : d = peer l c
  · subst h; rw [peer_peer, if_pos ⟨rfl, rfl⟩, if_pos rfl]
  · rw [if_neg h, if_neg]
    rintro ⟨e, -⟩
    exact h (by rw [barCell_inj e, peer_peer])

theorem owed_bar (d c : Dev nD) : O₀ d (barCell c) () = (if d = peer .xDst c then 1 else 0) + if d = peer .yDst c then 1 else 0 := by
  unfold O₀ nbr landLeg
  simp only [Pi.add_apply, Finsupp.add_apply, owesLeg_bar, Nat.zero_add, tally_bar]

theorem owed_leg (d c : Dev nD) (l : Leg) (k : Fin 8) (hl : l = .yDst ∨ l = .xDst) :
    O₀ d (legCell c (l, k)) () = if d = peer l c then N else 0 := by
  unfold O₀
  simp only [Pi.add_apply, Finsupp.add_apply, owesLeg_leg, tallyAt_ne_cell (leg_ne_barCell _ _ _), Finsupp.zero_apply, Nat.add_zero]
  rcases hl with rfl | rfl <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer .xDst c) fun _ => 1, Finset.sum_ite_eq' Finset.univ (peer .yDst c) fun _ => 1,
    if_pos (Finset.mem_univ _), if_pos (Finset.mem_univ _)]

theorem launch_leg (c : Dev nD) (l : Leg) (k : Fin 8) (hl : l = .yDst ∨ l = .xDst) :
    tallyOn (legCell c (l, k)) (launchCredit (Pipeline.owing O₀) 0 (legCell c (l, k))) = (tallyAt (legCell c (l, k)) () N : CellTallies nD τ sig Unit) := by
  unfold tallyAt; refine congrArg _ (Finsupp.ext fun u => ?_); cases u
  rw [Pipeline.launchCredit_owing, Finsupp.single_eq_same, Finset.sum_congr rfl fun d _ => owed_leg d c l k hl,
    Finset.sum_ite_eq' Finset.univ (peer l c) fun _ => N, if_pos (Finset.mem_univ _)]

/-- The landing cells' semaphores, and with them the barrier. -/
def waited : Unit ⊕ (Bool × Fin 8) ↪ SemLoc sig where
  toFun
    | .inl _ => .reg barS
    | .inr (d, k) => .dma (legSem (landLeg d, k))
  inj' := by decide +kernel

theorem credits_intro (c : Dev nD) : (Pipeline.launchCred O₀ c : sProp 𝕄) ⊢ credits c := by
  unfold Pipeline.launchCred
  have h : (bigSep Finset.univ fun sm : SemLoc sig => (cred (tallyOn ((c : Thread nD τ), sm) (launchCredit (Pipeline.owing O₀) 0 ((c : Thread nD τ), sm))) : sProp 𝕄))
      ⊢ bigSep (Finset.univ.map waited) fun sm : SemLoc sig => cred (tallyOn ((c : Thread nD τ), sm) (launchCredit (Pipeline.owing O₀) 0 ((c : Thread nD τ), sm))) :=
    bigSep_subset (Finset.subset_univ (Finset.univ.map waited))
  refine .trans h (Entails.of_eq ?_)
  rw [bigSep_map, bigSep_univ_sum, bigSep_univ_of_subsingleton (), halves_split]
  unfold credits
  refine congrArg₂ _ (congrArg _ (launch_bar c)) (congrArg₂ _ (bigSep_congr fun k _ => congrArg _ ?_) (bigSep_congr fun k _ => congrArg _ ?_))
  · exact launch_leg c .yDst k (.inl rfl)
  · exact launch_leg c .xDst k (.inr rfl)

/-! ## The launch -/

/-- What a device keeps of the exchange's ghost state, and the rest of what it starts with. -/
def own (c : Dev nD) : sProp 𝕄 :=
  iprop(atPos ER (barCell c) 0 ∅ 0 ∗ (bigSep Finset.univ fun q : Leg × Fin 8 => openTok ER (legCell c q)) ∗ tokens c)
def start (c : Dev nD) : sProp 𝕄 :=
  iprop(StableHlo.held (c : Thread nD τ) (Pipeline.ucRefs τ sig) (V₀ m c) ∗ owing c (O₀ c) ∗ (∃ r, prngReg c r) ∗ credits c)

abbrev first₀ (c : Dev nD) : sProp 𝕄 := iprop(StableHlo.held (c : Thread nD τ) (Pipeline.ucRefs τ sig) (V₀ m c) ∗ rest m c)
abbrev last₀ (c : Dev nD) : sProp 𝕄 := iprop(StableHlo.held (c : Thread nD τ) (Pipeline.ucRefs τ sig) (V₂ m c) ∗ semVal (barCell c) 0)

theorem first_intro (κ : GSem nD τ sig → ℕ) (c : Dev nD) : iprop(known (part m) κ ∗ (own c ∗ start m c)) ⊢ first₀ m c := by
  unfold own start first₀ rest ghost
  iintro ⟨#Hk, ⟨Ha, Ho, Ht⟩, Hh, HO, Hp, Hc⟩
  isplitl [Hh]; · iexact Hh
  isplitl [HO]; · iexact HO
  isplitl [Hp]; · iexact Hp
  isplitr [Hc]; swap; · iexact Hc
  iexists κ
  isplitr; · iexact Hk
  isplitl [Ha]; · iexact Ha
  isplitl [Ho] <;> iassumption

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch hands a device. -/
def handed (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem handed_elim (c : Dev nD) : handed m ρ c ⊢ (iprop(start m c ∗ (semVal (barCell c) 0 ∗ G c)) : sProp 𝕄) := by
  unfold handed
  rw [show unscopedBufs c (fun b => m ((c : Thread nD τ).loc b)) = StableHlo.held (c : Thread nD τ) (Pipeline.ucRefs τ sig) (V₀ m c)
    from Pipeline.unscopedBufs_held c (V₀ m c), unscopedSems_eq]
  unfold start owing
  iintro ⟨Hh, Hs, HO, Hc, Hp, HG⟩
  isplitr [Hs HG]
  · isplitl [Hh]; · iexact Hh
    isplitl [HO]; · iexists ∅; iexact HO
    isplitl [Hp]; · iexists (ρ c); iexact Hp
    iapply (credits_intro c) $$ Hc
  isplitl [Hs] <;> iassumption

theorem handed_all : bigSep Finset.univ (handed m ρ)
    ⊢ (iprop(bigSep Finset.univ (start m) ∗ (bigSep Finset.univ fun c : Dev nD => semVal (barCell c) 0) ∗ bigSep Finset.univ G) : sProp 𝕄) := by
  rw [← bigSep_sep', ← bigSep_sep']
  exact bigSep_mono fun c _ => handed_elim m ρ c

theorem own_all : (bigSep Finset.univ own : sProp 𝕄)
    = iprop((bigSep Finset.univ fun c : Dev nD => atPos ER (barCell c) 0 ∅ 0)
      ∗ (bigSep Finset.univ fun x : Dev nD × (Leg × Fin 8) => openTok ER (legCell x.1 x.2)) ∗ bigSep Finset.univ tokens) := by
  unfold own
  rw [bigSep_sep', bigSep_sep', bigSep_univ_prod]

theorem invs_split (κ : GSem nD τ sig → ℕ) :
    (bigSep (barCells ∪ legCells) fun g => (cellInv ER (sched (part m)) (κ g) g : sProp 𝕄))
      = iprop((bigSep Finset.univ fun c : Dev nD => cellInv ER (sched (part m)) (κ (barCell c)) (barCell c))
        ∗ bigSep Finset.univ fun c : Dev nD => bigSep Finset.univ fun q : Leg × Fin 8 => cellInv ER (sched (part m)) (κ (legCell c q)) (legCell c q)) := by
  rw [bigSep_union cells_apart, bigSep_map, bigSep_map, bigSep_univ_prod]
  rfl

theorem known_intro (κ : GSem nD τ sig → ℕ) :
    (iprop((bigSep (barCells ∪ legCells) fun g => cellInv ER (sched (part m)) (κ g) g) ∗ bigSep barCells fun g => reached ER g 0) : sProp 𝕄)
      ⊢ known (part m) κ := by
  unfold known
  rw [invs_split, bigSep_map, bigSep_sep']
  iintro ⟨⟨Hb, Hl⟩, Hr⟩
  isplitr [Hl]; swap; · iexact Hl
  isplitl [Hb]; · iexact Hb
  iexact Hr

theorem init : iprop(bigSep Finset.univ (handed m ρ) ∗ levAts L lv) ⊢ (|={Set.univ}=> bigSep Finset.univ (first₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep legCells (fun g => (openTok ER g : sProp 𝕄)) ⊢ bigSep Finset.univ (fun x : Dev nD × (Leg × Fin 8) => (openTok ER (legCell x.1 x.2) : sProp 𝕄)) :=
    Entails.of_eq (bigSep_map (s := Finset.univ) legEmb (Φ := fun g : GSem nD τ sig => (openTok ER g : sProp 𝕄)))
  iintro ⟨H, -⟩
  ihave H := (handed_all m ρ) $$ H
  icases H with ⟨Hs, Hv, HG⟩
  ihave HG := (Entails.of_eq (G_all (F := F))) $$ HG
  imod (Rounds.fund_launch ER (sched (part m)) cells_apart (fun g _ h => h) duties) $$ [Hv HG] with ⟨%κ, -, #Hinv, #Hr, Hat, Hopen, Htok⟩
  · isplitl [Hv]
    · iapply hv $$ Hv
    · iexact HG
  imodintro
  iapply (bigSep_with_persistent (R := known (part m) κ) (Φ := fun c => iprop(own c ∗ start m c)) fun c _ => first_intro m κ c)
  isplitr
  · iapply (known_intro m κ)
    isplitr; · iexact Hinv
    iexact Hr
  iapply (Entails.of_eq (bigSep_sep' Finset.univ own (start m)).symm)
  isplitr [Hs]; swap; · iexact Hs
  iapply (Entails.of_eq (own_all (F := F)).symm)
  isplitl [Hat]; · iapply hat $$ Hat
  isplitl [Hopen]; · iapply hopen $$ Hopen
  iapply (Entails.of_eq (duties_dealt (F := F))) $$ Htok

/-! ## The run -/

theorem end_intro (c : Dev nD) : (reg1 m).post c ⊢ iprop(last₀ m c ∗ ∃ W, owes (c : Thread nD τ) (0 : CellTallies nD τ sig Unit) W) := by
  refine .trans (reg1_post m c) ?_
  iintro ⟨Hh, Hb, HO⟩
  isplitr [HO]
  · isplitl [Hh] <;> iassumption
  · iexact HO

theorem only_barrier : ∀ sm : SemLoc sig, sm.isScoped .tc = false → sm = .reg barS := by decide

set_option backward.isDefEq.respectTransparency.types false in
/-- Every execution from any memory with zero counters ends with the arguments unchanged, the result at its block of the
    summed partial products and all counters at zero. -/
theorem run_main : θ_run defs (onTc (τ := τ) (main (F := F))) ⟨m, fun _ => 0, ρ⟩
    (fun r => (∀ c : Dev nD, r.2.mem ((c : Thread nD τ).loc main_v2_0) = outF (part m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main
    [.region (reg0 m), .region (reg1 m)]
    (fun c Q => by
      rewrite [main_chain c, Pipeline.Seg.run_eq_chain,
        show ([.region (reg0 m), .region (reg1 m)] : List (Pipeline.Seg (pcfgs (F := F)) adm (pdats m) () defs₀ 𝒱₀ L lv)).map Pipeline.Seg.prog = [
          Prog.lift (.customCall (Pipeline.entry 0) ()),
          Prog.lift (.customCall (Pipeline.entry 1) ()) ] from rfl]
      exact .rfl)
    (by simp only [Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      ihave HX := (own_pair_emb _ _ _) $$ HX
      icases HX with ⟨HX, -⟩
      imodintro
      isplitl [HP]; · iexact HP
      iapply (Entails.of_eq (G_all (F := F)).symm)
      iexact HX)
    (T₀ := first₀ m) (Tₙ := last₀ m)
    (hch := ⟨reg0_pre m, fun c => (reg0_post m c).trans (reg1_pre m c), end_intro m⟩)
    (hinit := init m ρ)
    (QY := fun c s => (s.mem ((c : Thread nD τ).loc main_v2_0) = V₂ m c main_v2_0
        ∧ s.mem ((c : Thread nD τ).loc main_arg0) = V₂ m c main_arg0 ∧ s.mem ((c : Thread nD τ).loc main_arg1) = V₂ m c main_arg1)
      ∧ s.sem (barCell c) = 0)
    (hfin := fun c s' => by
      dsimp only [last₀]
      rw [held_eq]
      iintro ⟨⟨⟨Hx, Hy, -, Ho, -⟩, Hb⟩, HSI⟩
      icombine HSI Hx gives %hx
      icombine HSI Hy gives %hy
      icombine HSI Ho gives %ho
      icombine HSI Hb gives %hb
      imodintro
      isplitr
      · ipureintro
        exact ⟨⟨Buf.eq_of_forall_mem_univ ho, Buf.eq_of_forall_mem_univ hx, Buf.eq_of_forall_mem_univ hy⟩, by simpa using hb⟩
      iexact HSI)
    (hQ := fun s h hs => ⟨fun c => by
        obtain ⟨⟨ho, hx, hy⟩, -⟩ := h c
        rw [V₂_out] at ho
        rw [V₂_of_ne m c main_arg0 (by decide) (by decide), V₁_arg0] at hx
        rw [V₂_of_ne m c main_arg1 (by decide) (by decide), V₁_arg1] at hy
        exact ⟨ho, hx, hy⟩,
      sem_eq_zero hs fun c sm hsm => by
        obtain rfl := only_barrier sm hsm
        exact (h c).2⟩)

end Cert.KernelIdeal.Scatter

end
-- ==== Proof.Product.lean ====
/-
  What the first call computes over extended reals: every element of a device's partial product is the sum, over the
  device's 4096 rows, of the products of the two arguments' elements.
-/
module

public import proofs.«01_k».proof.Proof.Calls
public import Idealize.ShloMosaic.Lib.Pipeline.Value
public import Idealize.ShloMosaic.Lib.Pointwise

@[expose] public section

noncomputable section

namespace Cert.KernelIdeal.Scatter

open Idealize.ShloMosaic Idealize.ShloMosaic.TcCoe
open Cert.KernelIdeal Cert.KernelIdeal.Gen

/-! ## Products summed over rows -/

/-- Row `r`'s contribution to element `(p, q)` of `x` transposed times `y`, two arrays of `n` rows; zero past the
    last row. -/
def rowTerm {n : Nat} (x : (⟨2, ![n, 4096]⟩ : Shape).Idx → EReal) (y : (⟨2, ![n, 8192]⟩ : Shape).Idx → EReal)
    (p : Fin 4096) (q : Fin 8192) (r : ℕ) : EReal :=
  if h : r < n then x (ix2 ⟨r, h⟩ p) * y (ix2 ⟨r, h⟩ q) else 0

/-- Element `(p, q)` of `x` transposed times `y`. -/
def rowSum {n : Nat} (x : (⟨2, ![n, 4096]⟩ : Shape).Idx → EReal) (y : (⟨2, ![n, 8192]⟩ : Shape).Idx → EReal)
    (p : Fin 4096) (q : Fin 8192) : EReal := ∑ r ∈ Finset.range n, rowTerm x y p q r

/-- The contribution of a row that there is. -/
theorem rowTerm_of_lt {n : Nat} (x : (⟨2, ![n, 4096]⟩ : Shape).Idx → EReal) (y : (⟨2, ![n, 8192]⟩ : Shape).Idx → EReal)
    (p : Fin 4096) (q : Fin 8192) {r : ℕ} (h : r < n) : rowTerm x y p q r = x (ix2 ⟨r, h⟩ p) * y (ix2 ⟨r, h⟩ q) :=
  dif_pos h

/-- The sum over the rows, the row a bounded number. -/
theorem rowSum_eq {n : Nat} (x : (⟨2, ![n, 4096]⟩ : Shape).Idx → EReal) (y : (⟨2, ![n, 8192]⟩ : Shape).Idx → EReal)
    (p : Fin 4096) (q : Fin 8192) : rowSum x y p q = ∑ r : Fin n, x (ix2 r p) * y (ix2 r q) := by
  unfold rowSum
  rw [← Fin.sum_univ_eq_sum_range]
  exact Finset.sum_congr rfl fun r _ => rowTerm_of_lt x y p q r.isLt

/-! ## The payloads at an element -/

/-- The sum starts at zero. -/
theorem pay1_apply (j : S4096x1024.Idx) : (k0_pay1 (F := Ideal)) j = (0 : EReal) := by
  unfold k0_pay1
  rw [shapeCast_self]
  exact Ideal.ofBits_zero_f32

/-- One point adds the products of 256 rows. -/
theorem pay2_apply (a : Vec Ideal S4096x1024 .f32) (x : Vec Ideal S256x4096 .f32) (y : Vec Ideal S256x1024 .f32)
    (p : Fin 4096) (q : Fin 1024) :
    k0_pay2 a x y (ix2 p q) = (a (ix2 p q) + ∑ k : Fin 256, x (ix2 k p) * y (ix2 k q) : EReal) := by
  unfold k0_pay2
  simp only [shapeCast_self]
  pointwise

/-- Rounding the sum changes nothing. -/
theorem pay3_apply (a : Vec Ideal S4096x1024 .f32) (j : S4096x1024.Idx) : k0_pay3 a j = a j := rfl

/-! ## The blocks of a point -/

variable (m : (ℓ : Loc nD τ sig) → Buf (Elt Ideal) ℓ)

/-- A device's blocks of the two arguments. -/
abbrev argX (c : Dev nD) : Vec Ideal S4096x4096 .f32 := m ((c : Thread nD τ).loc main_arg0)
abbrev argY (c : Dev nD) : Vec Ideal S4096x8192 .f32 := m ((c : Thread nD τ).loc main_arg1)

/-- Where the blocks of point `t` lie: rows `256 * (t % 16)` on, columns `1024 * (t / 16)` on. -/
theorem blocks_index : ∀ t : Fin cfg0.N,
    (win0_0.index t (0 : Fin 2) = t.val % 16 ∧ win0_0.index t (1 : Fin 2) = 0)
      ∧ (win0_1.index t (0 : Fin 2) = t.val % 16 ∧ win0_1.index t (1 : Fin 2) = t.val / 16)
      ∧ win0_2.index t (0 : Fin 2) = 0 ∧ win0_2.index t (1 : Fin 2) = t.val / 16 :=
  (by decide +kernel : ∀ t : Fin grid0.N, _)

theorem row_lt (t : Fin cfg0.N) (k : Fin 256) : 256 * (t.val % 16) + k.val < 4096 := by omega
theorem col_lt (t : Fin cfg0.N) (q : Fin 1024) : 1024 * (t.val / 16) + q.val < 8192 := by
  have := Nat.lt_of_lt_of_eq t.isLt N_0
  omega

theorem blockX_apply (c : Dev nD) (t : Fin cfg0.N) (k : Fin 256) (p : Fin 4096) :
    (blockAt m c 0 t : Vec Ideal S256x4096 .f32) (ix2 k p) = argX m c (ix2 ⟨256 * (t.val % 16) + k.val, row_lt t k⟩ p) := by
  unfold blockAt
  rw [View.read_apply]
  refine congrArg (argX m c) ?_
  funext a
  apply Fin.ext
  obtain ⟨⟨e0, e1⟩, -, -⟩ := blocks_index t
  match a with
  | ⟨0, _⟩ => show win0_0.index t (0 : Fin 2) * 256 + 1 * k.val = 256 * (t.val % 16) + k.val; omega
  | ⟨1, _⟩ => show win0_0.index t (1 : Fin 2) * 4096 + 1 * p.val = p.val; omega

theorem blockY_apply (c : Dev nD) (t : Fin cfg0.N) (k : Fin 256) (q : Fin 1024) :
    (blockAt m c 1 t : Vec Ideal S256x1024 .f32) (ix2 k q)
      = argY m c (ix2 ⟨256 * (t.val % 16) + k.val, row_lt t k⟩ ⟨1024 * (t.val / 16) + q.val, col_lt t q⟩) := by
  unfold blockAt
  rw [View.read_apply]
  refine congrArg (argY m c) ?_
  funext a
  apply Fin.ext
  obtain ⟨-, ⟨e0, e1⟩, -⟩ := blocks_index t
  match a with
  | ⟨0, _⟩ => show win0_1.index t (0 : Fin 2) * 256 + 1 * k.val = 256 * (t.val % 16) + k.val; omega
  | ⟨1, _⟩ => show win0_1.index t (1 : Fin 2) * 1024 + 1 * q.val = 1024 * (t.val / 16) + q.val; omega

/-! ## The sum after a point -/

/-- A point's step, at an element: the 256 rows of its blocks are added to the sum before, or to zero at the first. -/
theorem stepSum_apply (c : Dev nD) (t : Fin cfg0.N) (a : Vec Ideal S4096x1024 .f32) (p : Fin 4096) (q : Fin 1024) :
    stepSum (grid0.coords t) (blockAt m c 0 t) (blockAt m c 1 t) a (ix2 p q)
      = ((if t.val % 16 = 0 then 0 else a (ix2 p q))
          + ∑ k ∈ Finset.range 256, rowTerm (argX m c) (argY m c) p ⟨1024 * (t.val / 16) + q.val, col_lt t q⟩
              (256 * (t.val % 16) + k) : EReal) := by
  unfold stepSum
  refine (pay2_apply _ _ _ p q).trans ?_
  refine congr (congrArg HAdd.hAdd ?_) ?_
  · by_cases h : t.val % 16 = 0
    · rw [if_pos h, if_pos ((first_iff t).mpr h)]; exact pay1_apply _
    · rw [if_neg h, if_neg (fun e => h ((first_iff t).mp e))]
  · rw [← Fin.sum_univ_eq_sum_range (fun k => rowTerm _ _ _ _ (256 * (t.val % 16) + k))]
    refine Finset.sum_congr rfl fun k _ => ?_
    rw [rowTerm_of_lt _ _ _ _ (row_lt t k)]
    exact congr (congrArg HMul.hMul (blockX_apply m c t k p)) (blockY_apply m c t k q)

/-- After a point the sum holds the rows of all the blocks so far. -/
theorem sumAt_apply (c : Dev nD) (p : Fin 4096) (q : Fin 1024) : ∀ (n : ℕ) (h : n < cfg0.N),
    sumAt m c n h (ix2 p q)
      = (∑ r ∈ Finset.range (256 * (n % 16 + 1)),
          rowTerm (argX m c) (argY m c) p ⟨1024 * (n / 16) + q.val, col_lt ⟨n, h⟩ q⟩ r : EReal)
  | 0, h => by
    refine (stepSum_apply m c ⟨0, h⟩ _ p q).trans ?_
    simp
  | n + 1, h => by
    refine (stepSum_apply m c ⟨n + 1, h⟩ _ p q).trans ?_
    rw [sumAt_apply c p q n (Nat.lt_of_succ_lt h)]
    dsimp only
    rw [show 256 * ((n + 1) % 16 + 1) = 256 * ((n + 1) % 16) + 256 from by omega, Finset.sum_range_add]
    refine congrArg (· + _) ?_
    by_cases h0 : (n + 1) % 16 = 0
    · rw [if_pos h0, h0]; rfl
    · rw [if_neg h0]
      have e1 : n % 16 + 1 = (n + 1) % 16 := by omega
      have e2 : (n + 1) / 16 = n / 16 := by omega
      simp only [e1, e2]

/-! ## The partial product -/

/-- Every element of a device's partial product is the sum over the device's rows. -/
theorem part_apply (c : Dev nD) (i : S4096x8192.Idx) : part m c i = rowSum (argX m c) (argY m c) (i 0) (i 1) := by
  refine congrFun ((dat0 m c).arrAt_eq_of_cover 2 (fun i => rowSum (argX m c) (argY m c) (i 0) (i 1)) (fun t hf => ?_) (fun i => ?_)) i
  · have ht : t.val % 16 = 15 := (flush0_2 t).mp hf
    obtain ⟨-, -, e0, e1⟩ := blocks_index t
    funext y
    show (cfg0.win 2).cut (grid0.coords t) ((dat0 m c).after 2 t) y = _
    rw [dat0_after2, View.read_apply]
    show sumAt m c t.val t.isLt ((cfg0.win 2).xinj (grid0.coords t) y)
      = rowSum (argX m c) (argY m c) (((cfg0.win 2).blk t).view.emb y 0) (((cfg0.win 2).blk t).view.emb y 1)
    have hy : (cfg0.win 2).xinj (grid0.coords t) y = ix2 (n0 := 4096) (n1 := 1024) (y 0) (y 1) := by
      funext a
      match a with
      | ⟨0, _⟩ => rfl
      | ⟨1, _⟩ => rfl
    refine ((congrArg (sumAt m c t.val t.isLt) hy).trans (sumAt_apply m c (y 0) (y 1) t.val t.isLt)).trans ?_
    rw [ht]
    unfold rowSum
    have b0 : (((cfg0.win 2).blk t).view.emb y 0).val = win0_2.index t (0 : Fin 2) * 4096 + 1 * (y 0).val := rfl
    have b1 : (((cfg0.win 2).blk t).view.emb y 1).val = win0_2.index t (1 : Fin 2) * 1024 + 1 * (y 1).val := rfl
    refine Finset.sum_congr rfl fun r _ => ?_
    congr 1
    · exact Fin.ext (by rw [b0, e0]; omega)
    · exact Fin.ext (by rw [b1, e1]; show 1024 * (t.val / 16) + (y 1).val = _; omega)
  · have h0 : (i 0).val < 4096 := (i 0).isLt
    have h1 : (i 1).val < 8192 := (i 1).isLt
    have hN : 16 * ((i 1).val / 1024) + 15 < cfg0.N := by rw [show cfg0.N = 128 from N_0]; omega
    refine ⟨⟨16 * ((i 1).val / 1024) + 15, hN⟩, (flush0_2 _).mpr (by show (16 * ((i 1).val / 1024) + 15) % 16 = 15; omega), ?_⟩
    obtain ⟨-, -, e0, e1⟩ := blocks_index ⟨16 * ((i 1).val / 1024) + 15, hN⟩
    have e1' : win0_2.index ⟨16 * ((i 1).val / 1024) + 15, hN⟩ (1 : Fin 2) = (i 1).val / 1024 := by
      rw [e1]; show (16 * ((i 1).val / 1024) + 15) / 16 = _; omega
    show i ∈ ((View.whole main_v1).slice (win0_2.rect ⟨16 * ((i 1).val / 1024) + 15, hN⟩)).set
    rw [View.set_slice_whole, Rect.mem_set_unit]
    intro a
    match a with
    | ⟨0, _⟩ => show win0_2.index _ (0 : Fin 2) * 4096 ≤ (i 0).val ∧ (i 0).val < win0_2.index _ (0 : Fin 2) * 4096 + 4096; omega
    | ⟨1, _⟩ => show win0_2.index _ (1 : Fin 2) * 1024 ≤ (i 1).val ∧ (i 1).val < win0_2.index _ (1 : Fin 2) * 1024 + 1024; omega

end Cert.KernelIdeal.Scatter

end
-- ==== Proof.Value.lean ====
/-
  What the kernel computes over extended reals: every device ends with its block of the reference's product. The two
  halves of the rows, one from the device itself and one from its y partner, make up the sum over all the rows.
-/
module

public import proofs.«01_k».proof.Defs
public import proofs.«01_k».proof.Proof.Product
public import proofs.«01_k».proof.Proof.Run
public import proofs.«01_k».proof.Proof.Gen.ReferenceIdeal
public import proofs.«01_k».proof.Proof.Gen.ReferenceIdeal.Run

@[expose] public section

noncomputable section

namespace Cert.KernelIdeal.Scatter

open Idealize.ShloMosaic Idealize.ShloMosaic.TcCoe Idealize.SL.Sem
open Cert.KernelIdeal Cert.KernelIdeal.Gen

/-- The whole arrays. -/
abbrev WholeX : Type := (⟨2, ![8192, 4096]⟩ : Shape).Idx → EReal
abbrev WholeY : Type := (⟨2, ![8192, 8192]⟩ : Shape).Idx → EReal

variable (m : (ℓ : Loc nD τ sig) → Buf (Elt Ideal) ℓ) (X : WholeX) (Y : WholeY)

/-- The block of an array cut in two along its rows, by the mesh's axis y, that a device holds. -/
abbrev place (c : Dev nD) := Layout.meshBlock (r := 2) [2, 2, 4] ![[1], []] c

/-- Every device holds its half of the rows of the two whole arrays. -/
def Placed : Prop := ∀ c : Dev nD,
  argX m c = Layout.blockN ⟨2, ![4096, 4096]⟩ ⟨2, ![8192, 4096]⟩ (place c) X
    ∧ argY m c = Layout.blockN ⟨2, ![4096, 8192]⟩ ⟨2, ![8192, 8192]⟩ (place c) Y

/-- The block of rows that a device holds is named by its y coordinate. -/
theorem block_row : ∀ c : Dev nD, (place c 0).val = c.val / 4 % 2 := by
  decide +kernel
/-- No array is cut along its columns. -/
theorem block_col : ∀ c : Dev nD, (place c 1).val = 0 := by
  decide +kernel

variable {m X Y}

/-- A row of a device's blocks is a row of the whole arrays, `4096` times the y coordinate further down. -/
theorem rowTerm_placed (hP : Placed m X Y) (c : Dev nD) (p : Fin 4096) (q : Fin 8192) {r : ℕ} (hr : r < 4096) :
    rowTerm (argX m c) (argY m c) p q r = rowTerm X Y p q (4096 * (c.val / 4 % 2) + r) := by
  have hb := block_row c
  have hc := block_col c
  have hw : 4096 * (c.val / 4 % 2) + r < 8192 := by omega
  rw [rowTerm_of_lt _ _ _ _ hr, rowTerm_of_lt _ _ _ _ hw, (hP c).1, (hP c).2]
  refine congr (congrArg HMul.hMul (congrArg X ?_)) (congrArg Y ?_)
  · funext a
    apply Fin.ext
    match a with
    | ⟨0, _⟩ =>
      show (place c 0).val * 4096 + r = 4096 * (c.val / 4 % 2) + r
      omega
    | ⟨1, _⟩ =>
      show (place c 1).val * 4096 + p.val = p.val
      omega
  · funext a
    apply Fin.ext
    match a with
    | ⟨0, _⟩ =>
      show (place c 0).val * 4096 + r = 4096 * (c.val / 4 % 2) + r
      omega
    | ⟨1, _⟩ =>
      show (place c 1).val * 8192 + q.val = q.val
      omega

/-- A device's partial product is the sum over its half of the rows. -/
theorem part_placed (hP : Placed m X Y) (c : Dev nD) (i : S4096x8192.Idx) :
    part m c i = (∑ r ∈ Finset.range 4096, rowTerm X Y (i 0) (i 1) (4096 * (c.val / 4 % 2) + r) : EReal) :=
  (part_apply m c i).trans
    (Finset.sum_congr rfl fun _ hr => rowTerm_placed hP c _ _ (Finset.mem_range.mp hr))

/-- What a device receives is, in either half of the columns, the sum over the rows that it does not hold. -/
theorem recv_placed (hP : Placed m X Y) (c : Dev nD) (i : S2048x8192.Idx) :
    recvF (part m) c i
      = (∑ r ∈ Finset.range 4096, rowTerm X Y (kept c i 0) (kept c i 1) (4096 * (1 - c.val / 4 % 2) + r) : EReal) := by
  by_cases h : (i 1).val / 4096 = c.val / 8
  · rw [recvF_mine _ _ _ h, part_placed hP, yp_y]
  · rw [recvF_other _ _ _ h, part_placed hP, yp_y, xn_y]

/-- The own half and the other half of the rows, in either order, are all the rows. -/
theorem halves (f : ℕ → EReal) {y : ℕ} (hy : y < 2) :
    (∑ r ∈ Finset.range 4096, f (4096 * y + r)) + (∑ r ∈ Finset.range 4096, f (4096 * (1 - y) + r))
      = ∑ r ∈ Finset.range 8192, f r := by
  rw [show (8192 : ℕ) = 4096 + 4096 from rfl, Finset.sum_range_add]
  obtain rfl | rfl : y = 0 ∨ y = 1 := by omega
  · simp
  · rw [add_comm]; simp

/-- Every element of a device's result is the sum over all the rows. -/
theorem out_placed (hP : Placed m X Y) (c : Dev nD) (i : S2048x8192.Idx) :
    outF (part m) c i = rowSum X Y (kept c i 0) (kept c i 1) := by
  show (part m c (kept c i) + recvF (part m) c i : EReal) = _
  rw [part_placed hP, recv_placed hP]
  exact halves (fun r => rowTerm X Y (kept c i 0) (kept c i 1) r) (Nat.mod_lt _ (by decide))

/-! ## The reference -/

/-- The reference's product. -/
abbrev product (X : WholeX) (Y : WholeY) : (⟨2, ![4096, 8192]⟩ : Shape).Idx → EReal :=
  Host.dotGeneral (F := Ideal) (φ₁ := .f32) (φ₂ := .f32) ReferenceIdeal.dot_S4096x8192_S8192x8192_S4096x8192_1_0_0_1_n_n none
    (transpose ReferenceIdeal.S4096x8192 [1, 0] X ReferenceIdeal.Gen.transposes_S8192x4096_S4096x8192_1_0) Y

/-- Every element of the reference's product is the sum over all the rows. -/
theorem product_apply (p : Fin 4096) (q : Fin 8192) : product X Y (ix2 p q) = rowSum X Y p q := by
  rw [rowSum_eq]
  unfold product
  pointwise

/-- A device's result is its block of the reference's product. -/
theorem out_block (hP : Placed m X Y) (c : Dev nD) :
    outF (part m) c = Layout.blockN ⟨2, ![2048, 8192]⟩ ⟨2, ![4096, 8192]⟩ (place c) (product X Y) := by
  funext i
  have hb := block_row c
  have hc := block_col c
  refine (out_placed hP c i).trans ((product_apply _ _).symm.trans (congrArg (product X Y) ?_))
  funext a
  apply Fin.ext
  match a with
  | ⟨0, _⟩ =>
    show 2048 * (c.val / 4 % 2) + (i 0).val = (place c 0).val * 2048 + (i 0).val
    omega
  | ⟨1, _⟩ =>
    show (i 1).val = (place c 1).val * 8192 + (i 1).val
    omega

end Cert.KernelIdeal.Scatter

end
-- ==== Proof.lean ====
/- The claims about the gradient kernel, put together: both printings of the kernel run and leave the machine
   quiet, the reference runs, the idealization rewrites nothing, and over extended reals every device ends with its
   block of the reference's product. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The two printings of the kernel have the same two bodies: they are one text. -/
theorem bodies_eq : Cert.Kernel.defs₀ (F := Bits) = Cert.KernelIdeal.defs₀ (F := Bits) :=
  congrArg Defs.onTc (funext fun l => match l with
    | ⟨0, _⟩ => funext fun _ => rfl
    | ⟨1, _⟩ => funext fun _ => rfl)

/-- … so their tables of bodies and calls are the same. -/
theorem tables_eq : Cert.Kernel.defs (F := Bits) = Cert.KernelIdeal.defs (F := Bits) :=
  congrArg (Pipeline.defs _) bodies_eq

/-- The kernel, its floats bit patterns: every run ends, the arguments unchanged and every counter at zero. It is
    the run proved over any float type, read at the bit patterns. -/
theorem frame_Kernel : Cert.quiescent_Kernel := fun m ρ _ => by
  rw [tables_eq]
  exact (θ_run (Cert.KernelIdeal.defs (F := Bits)) _ _).mono
    (fun _ h => ⟨fun c => (h.1 c).2, h.2⟩) (Cert.KernelIdeal.Scatter.run_main (F := Bits) m ρ)

/-- The kernel over extended reals: every run ends, the arguments unchanged and every counter at zero. -/
theorem frame_KernelIdeal : Cert.quiescent_KernelIdeal := fun m ρ _ =>
  (θ_run (Cert.KernelIdeal.defs (F := Ideal)) _ _).mono
    (fun _ h => ⟨fun c => (h.1 c).2, h.2⟩) (Cert.KernelIdeal.Scatter.run_main (F := Ideal) m ρ)

/-- The reference over extended reals: every run ends, its arguments unchanged; it names no counter at all. -/
theorem frame_ReferenceIdeal : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- Over extended reals, from memories where every device holds its half of the rows of the two whole arrays, every
    device of the kernel ends with its block of the reference's product. -/
theorem value_KernelIdeal : Cert.algebraic_KernelIdeal_ReferenceIdeal := fun m ρ m' ρ' _ hm =>
  ⟨Cert.KernelIdeal.Scatter.product
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h.1 c).1.trans (Cert.KernelIdeal.Scatter.out_block hm c), (h.1 c).2⟩)
      (Cert.KernelIdeal.Scatter.run_main (F := Ideal) m ρ),
    (θ_run (Cert.ReferenceIdeal.defs (F := Ideal)) _ _).mono (fun _ h => h 0)
      (Cert.ReferenceIdeal.Value.run (F := Ideal) m' ρ')⟩

/-- Everything claimed of the kernel. -/
theorem claim : Cert.Claim :=
  ⟨Cert.Kernel.Gen.facts, Cert.KernelIdeal.Gen.facts, Cert.ReferenceIdeal.Gen.facts,
    frame_Kernel, frame_KernelIdeal, frame_ReferenceIdeal, trivial, value_KernelIdeal⟩

end Cert.Proof

end
